-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_v248) = v2 c
          ∧ r.2.mem ((c.tc : Thread Cert.ReferenceIdeal.nD Cert.ReferenceIdeal.τ).loc Cert.ReferenceIdeal.main_v250) = v3 c
          ∧ r.2.mem ((c.tc : Thread Cert.ReferenceIdeal.nD Cert.ReferenceIdeal.τ).loc Cert.ReferenceIdeal.main_v252) = v4 c
          ∧ r.2.mem ((c.tc : Thread Cert.ReferenceIdeal.nD Cert.ReferenceIdeal.τ).loc Cert.ReferenceIdeal.main_v253) = v5 c
          ∧ r.2.mem ((c.tc : Thread Cert.ReferenceIdeal.nD Cert.ReferenceIdeal.τ).loc Cert.ReferenceIdeal.main_v255) = v6 c
          ∧ r.2.mem ((c.tc : Thread Cert.ReferenceIdeal.nD Cert.ReferenceIdeal.τ).loc Cert.ReferenceIdeal.main_v256) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x2560x80x64 : Shape := ⟨4, ![4, 2560, 80, 64]⟩
abbrev S4x2560x80 : Shape := ⟨3, ![4, 2560, 80]⟩
abbrev S80 : Shape := ⟨1, ![80]⟩
abbrev S4x2560x1x128 : Shape := ⟨4, ![4, 2560, 1, 128]⟩
abbrev S_ : Shape := ⟨0, ![]⟩

class Facts : Prop where
  bitsLt_bf16_f32 : FTy.bits .bf16 < FTy.bits .f32
  bcast_S_S4x2560x80x64 : S_.BroadcastsInDim S4x2560x80x64 (![] : Fin 0 → Fin S4x2560x80x64.rank)
  reducesTo_S4x2560x80x64_S_d0_1_2_3 : S4x2560x80x64.ReducesTo [0, 1, 2, 3] S_
  h_S_ : 0 < S_.numel
  bcast_S_S4x2560x1x128 : S_.BroadcastsInDim S4x2560x1x128 (![] : Fin 0 → Fin S4x2560x1x128.rank)
  reducesTo_S4x2560x1x128_S_d0_1_2_3 : S4x2560x1x128.ReducesTo [0, 1, 2, 3] S_
  bcast_S_S80 : S_.BroadcastsInDim S80 (![] : Fin 0 → Fin S80.rank)
  reducesTo_S80_S_d0 : S80.ReducesTo [0] S_
  bcast_S_S4x2560x80 : S_.BroadcastsInDim S4x2560x80 (![] : Fin 0 → Fin S4x2560x80.rank)
  reducesTo_S4x2560x80_S_d0_1_2 : S4x2560x80.ReducesTo [0, 1, 2] S_

variable [Facts]

def fn_part1 {F : FTy → Type} [FloatOps F] (main_arg1 : FVec F S4x2560x80 .f32) (main_v16 : IVec S_ 1) (main_v17 : FVec F S80 .f32) : IVec S_ 1 :=
  let main_cst_4 : FVec F S_ .f32 := constant S_ .f32 0x7F7FFFFF#32
  let main_v18 : FVec F S80 .f32 := broadcastInDim S80 ![] bcast_S_S80 main_cst_4
  let main_v19 : IVec S80 1 := cmpf .ole main_v17 main_v18
  let main_c_5 : IVec S_ 1 := constantI S_ 1 1#1
  let main_v20 : IVec S_ 1 := (fun x v => Host.reduce IntOp.andi x v reducesTo_S80_S_d0 h_S_) main_v19 main_c_5
  let main_v21 : IVec S_ 1 := andi main_v16 main_v20
  let main_cst_6 : FVec F S_ .f32 := constant S_ .f32 0x00000000#32
  let main_v22 : FVec F S4x2560x80 .f32 := broadcastInDim S4x2560x80 ![] bcast_S_S4x2560x80 main_cst_6
  let main_v23 : IVec S4x2560x80 1 := cmpf .oge main_arg1 main_v22
  let main_c_7 : IVec S_ 1 := constantI S_ 1 1#1
  let main_v24 : IVec S_ 1 := (fun x v => Host.reduce IntOp.andi x v reducesTo_S4x2560x80_S_d0_1_2 h_S_) main_v23 main_c_7
  let main_v25 : IVec S_ 1 := andi main_v21 main_v24
  let main_cst_8 : FVec F S_ .f32 := constant S_ .f32 0x7F7FFFFF#32
  let main_v26 : FVec F S4x2560x80 .f32 := broadcastInDim S4x2560x80 ![] bcast_S_S4x2560x80 main_cst_8
  let main_v27 : IVec S4x2560x80 1 := cmpf .ole main_arg1 main_v26
  let main_c_9 : IVec S_ 1 := constantI S_ 1 1#1
  let main_v28 : IVec S_ 1 := (fun x v => Host.reduce IntOp.andi x v reducesTo_S4x2560x80_S_d0_1_2 h_S_) main_v27 main_c_9
  let main_v29 : IVec S_ 1 := andi main_v25 main_v28
  main_v29

def fn {F : FTy → Type} [FloatOps F] (main_arg0 : FVec F S4x2560x80x64 .bf16) (main_arg1 : FVec F S4x2560x80 .f32) (main_arg2 : FVec F S80 .f32) (main_arg3 : FVec F S4x2560x1x128 .bf16) (main_arg4 : FVec F S4x2560x1x128 .bf16) (main_arg5 : FVec F S80 .f32) : IVec S_ 1 :=
  let main_v0 : FVec F S4x2560x80x64 .f32 := (extf .f32 · bitsLt_bf16_f32) main_arg0
  let main_v1 : FVec F S4x2560x80x64 .f32 := Host.absf main_v0
  let main_cst : FVec F S_ .f32 := constant S_ .f32 0x7F7F0000#32
  let main_v2 : FVec F S4x2560x80x64 .f32 := broadcastInDim S4x2560x80x64 ![] bcast_S_S4x2560x80x64 main_cst
  let main_v3 : IVec S4x2560x80x64 1 := cmpf .ole main_v1 main_v2
  let main_c : IVec S_ 1 := constantI S_ 1 1#1
  let main_v4 : IVec S_ 1 := (fun x v => Host.reduce IntOp.andi x v reducesTo_S4x2560x80x64_S_d0_1_2_3 h_S_) main_v3 main_c
  let main_v5 : FVec F S4x2560x1x128 .f32 := (extf .f32 · bitsLt_bf16_f32) main_arg3
  let main_v6 : FVec F S4x2560x1x128 .f32 := Host.absf main_v5
  let main_cst_0 : FVec F S_ .f32 := constant S_ .f32 0x7F7F0000#32
  let main_v7 : FVec F S4x2560x1x128 .f32 := broadcastInDim S4x2560x1x128 ![] bcast_S_S4x2560x1x128 main_cst_0
  let main_v8 : IVec S4x2560x1x128 1 := cmpf .ole main_v6 main_v7
  let main_c_1 : IVec S_ 1 := constantI S_ 1 1#1
  let main_v9 : IVec S_ 1 := (fun x v => Host.reduce IntOp.andi x v reducesTo_S4x2560x1x128_S_d0_1_2_3 h_S_) main_v8 main_c_1
  let main_v10 : IVec S_ 1 := andi main_v4 main_v9
  let main_v11 : FVec F S4x2560x1x128 .f32 := (extf .f32 · bitsLt_bf16_f32) main_arg4
  let main_v12 : FVec F S4x2560x1x128 .f32 := Host.absf main_v11
  let main_cst_2 : FVec F S_ .f32 := constant S_ .f32 0x7F7F0000#32
  let main_v13 : FVec F S4x2560x1x128 .f32 := broadcastInDim S4x2560x1x128 ![] bcast_S_S4x2560x1x128 main_cst_2
  let main_v14 : IVec S4x2560x1x128 1 := cmpf .ole main_v12 main_v13
  let main_c_3 : IVec S_ 1 := constantI S_ 1 1#1
  let main_v15 : IVec S_ 1 := (fun x v => Host.reduce IntOp.andi x v reducesTo_S4x2560x1x128_S_d0_1_2_3 h_S_) main_v14 main_c_3
  let main_v16 : IVec S_ 1 := andi main_v10 main_v15
  let main_v17 : FVec F S80 .f32 := Host.absf main_arg2
  fn_part1 (F := F) main_arg1 main_v16 main_v17
-- ==== Kernel.lean ====
abbrev S4x2560x80x64 : Shape := ⟨4, ![4, 2560, 80, 64]⟩
abbrev S4x2560x80 : Shape := ⟨3, ![4, 2560, 80]⟩
abbrev S80 : Shape := ⟨1, ![80]⟩
abbrev S4x2560x1x128 : Shape := ⟨4, ![4, 2560, 1, 128]⟩
abbrev S4x80x64x2560 : Shape := ⟨4, ![4, 80, 64, 2560]⟩
abbrev S4x80x2560 : Shape := ⟨3, ![4, 80, 2560]⟩
abbrev S4x2560x128 : Shape := ⟨3, ![4, 2560, 128]⟩
abbrev S4x80x64x128 : Shape := ⟨4, ![4, 80, 64, 128]⟩
abbrev S4x1x10 : Shape := ⟨3, ![4, 1, 10]⟩
abbrev S1x80x64x256 : Shape := ⟨4, ![1, 80, 64, 256]⟩
abbrev S1x80x256 : Shape := ⟨3, ![1, 80, 256]⟩
abbrev S1x256x128 : Shape := ⟨3, ![1, 256, 128]⟩
abbrev S1x80x64x128 : Shape := ⟨4, ![1, 80, 64, 128]⟩
abbrev S1x1x10 : Shape := ⟨3, ![1, 1, 10]⟩
abbrev S80x256 : Shape := ⟨2, ![80, 256]⟩
abbrev S256x256 : Shape := ⟨2, ![256, 256]⟩
abbrev S80x128 : Shape := ⟨2, ![80, 128]⟩
abbrev S256x80 : Shape := ⟨2, ![256, 80]⟩
abbrev S1 : Shape := ⟨1, ![1]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S1x1 : Shape := ⟨2, ![1, 1]⟩
abbrev S1x10 : Shape := ⟨2, ![1, 10]⟩
abbrev S1x1x64x256 : Shape := ⟨4, ![1, 1, 64, 256]⟩
abbrev S64x256 : Shape := ⟨2, ![64, 256]⟩
abbrev S256 : Shape := ⟨1, ![256]⟩
abbrev S80x1 : Shape := ⟨2, ![80, 1]⟩
abbrev S128x128 : Shape := ⟨2, ![128, 128]⟩
abbrev S1x8x64x128 : Shape := ⟨4, ![1, 8, 64, 128]⟩
abbrev S8x64x128 : Shape := ⟨3, ![8, 64, 128]⟩
abbrev S512x128 : Shape := ⟨2, ![512, 128]⟩
abbrev S512x256 : Shape := ⟨2, ![512, 256]⟩
abbrev S128x1 : Shape := ⟨2, ![128, 1]⟩
abbrev S128x256 : Shape := ⟨2, ![128, 256]⟩
abbrev S1x1x64x128 : Shape := ⟨4, ![1, 1, 64, 128]⟩
abbrev S64x128 : Shape := ⟨2, ![64, 128]⟩

abbrev nBuf : Space → Nat
  | .hbm => 18
  | .vmem => 32
  | .smem => 2
  | _ => 0

abbrev bufTy : (tb : Table) → Fin (tcTables nBuf tb) → BufTy
  | .hbm, ⟨0, _⟩ => ⟨S4x2560x80x64, .bf16⟩
  | .hbm, ⟨1, _⟩ => ⟨S4x2560x80, .f32⟩
  | .hbm, ⟨2, _⟩ => ⟨S80, .f32⟩
  | .hbm, ⟨3, _⟩ => ⟨S4x2560x1x128, .bf16⟩
  | .hbm, ⟨4, _⟩ => ⟨S4x2560x1x128, .bf16⟩
  | .hbm, ⟨5, _⟩ => ⟨S80, .f32⟩
  | .hbm, ⟨6, _⟩ => ⟨S4x80x64x2560, .bf16⟩
  | .hbm, ⟨7, _⟩ => ⟨S4x80x2560, .f32⟩
  | .hbm, ⟨8, _⟩ => ⟨S4x2560x128, .bf16⟩
  | .hbm, ⟨9, _⟩ => ⟨S4x2560x128, .bf16⟩
  | .hbm, ⟨10, _⟩ => ⟨S4x80x64x2560, .bf16⟩
  | .hbm, ⟨11, _⟩ => ⟨S4x80x64x128, .f32⟩
  | .hbm, ⟨12, _⟩ => ⟨S4x80x64x2560, .fp8e4m3⟩
  | .hbm, ⟨13, _⟩ => ⟨S4x80x2560, .f32⟩
  | .hbm, ⟨14, _⟩ => ⟨S4x2560x128, .fp8e4m3⟩
  | .hbm, ⟨15, _⟩ => ⟨S4x1x10, .f32⟩
  | .hbm, ⟨16, _⟩ => ⟨S4x2560x128, .fp8e4m3⟩
  | .hbm, ⟨17, _⟩ => ⟨S4x1x10, .f32⟩
  | .local _ .vmem, ⟨0, _⟩ => ⟨S1x80x64x256, .bf16⟩
  | .local _ .vmem, ⟨1, _⟩ => ⟨S1x80x64x256, .bf16⟩
  | .local _ .vmem, ⟨2, _⟩ => ⟨S1x80x256, .f32⟩
  | .local _ .vmem, ⟨3, _⟩ => ⟨S1x80x256, .f32⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x80x64x256, .bf16⟩
  | .local _ .vmem, ⟨9, _⟩ => ⟨S1x80x64x256, .bf16⟩
  | .local _ .vmem, ⟨10, _⟩ => ⟨S1x80x64x128, .f32⟩
  | .local _ .vmem, ⟨11, _⟩ => ⟨S1x80x64x128, .f32⟩
  | .local _ .vmem, ⟨12, _⟩ => ⟨S1x80x64x256, .fp8e4m3⟩
  | .local _ .vmem, ⟨13, _⟩ => ⟨S1x80x64x256, .fp8e4m3⟩
  | .local _ .vmem, ⟨14, _⟩ => ⟨S1x80x256, .f32⟩
  | .local _ .vmem, ⟨15, _⟩ => ⟨S1x80x256, .f32⟩
  | .local _ .vmem, ⟨16, _⟩ => ⟨S1x256x128, .fp8e4m3⟩
  | .local _ .vmem, ⟨17, _⟩ => ⟨S1x256x128, .fp8e4m3⟩
  | .local _ .vmem, ⟨18, _⟩ => ⟨S1x1x10, .f32⟩
  | .local _ .vmem, ⟨19, _⟩ => ⟨S1x1x10, .f32⟩
  | .local _ .vmem, ⟨20, _⟩ => ⟨S1x256x128, .fp8e4m3⟩
  | .local _ .vmem, ⟨21, _⟩ => ⟨S1x256x128, .fp8e4m3⟩
  | .local _ .vmem, ⟨22, _⟩ => ⟨S1x1x10, .f32⟩
  | .local _ .vmem, ⟨23, _⟩ => ⟨S1x1x10, .f32⟩
  | .local _ .vmem, ⟨24, _⟩ => ⟨S80x256, .f32⟩
  | .local _ .vmem, ⟨25, _⟩ => ⟨S256x256, .f32⟩
  | .local _ .vmem, ⟨26, _⟩ => ⟨S80x256, .f32⟩
  | .local _ .vmem, ⟨27, _⟩ => ⟨S80x256, .f32⟩
  | .local _ .vmem, ⟨28, _⟩ => ⟨S80x256, .f32⟩
  | .local _ .vmem, ⟨29, _⟩ => ⟨S80x256, .f32⟩
  | .local _ .vmem, ⟨30, _⟩ => ⟨S80x128, .f32⟩
  | .local _ .vmem, ⟨31, _⟩ => ⟨S256x80, .f32⟩
  | .local _ .smem, ⟨0, _⟩ => ⟨S80, .f32⟩
  | .local _ .smem, ⟨1, _⟩ => ⟨S80, .f32⟩
  | _, _ => ⟨S4x2560x80x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 10], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x80x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x80x64x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x80x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x2560x80x64 : Shape := ⟨4, ![4, 2560, 80, 64]⟩
abbrev S4x2560x80 : Shape := ⟨3, ![4, 2560, 80]⟩
abbrev S80 : Shape := ⟨1, ![80]⟩
abbrev S4x2560x1x128 : Shape := ⟨4, ![4, 2560, 1, 128]⟩
abbrev S_ : Shape := ⟨0, ![]⟩
abbrev S4x2560x80x1 : Shape := ⟨4, ![4, 2560, 80, 1]⟩
abbrev S4x10x256x128 : Shape := ⟨4, ![4, 10, 256, 128]⟩
abbrev S4x10 : Shape := ⟨2, ![4, 10]⟩
abbrev S4x10x1x1 : Shape := ⟨4, ![4, 10, 1, 1]⟩
abbrev S4x10x256x80x64 : Shape := ⟨5, ![4, 10, 256, 80, 64]⟩
abbrev S4x10x256x80 : Shape := ⟨4, ![4, 10, 256, 80]⟩
abbrev S1x1x1x80 : Shape := ⟨4, ![1, 1, 1, 80]⟩
abbrev S4x10x1x80 : Shape := ⟨4, ![4, 10, 1, 80]⟩
abbrev S4x10x80 : Shape := ⟨3, ![4, 10, 80]⟩
abbrev S4x10x80x256 : Shape := ⟨4, ![4, 10, 80, 256]⟩
abbrev S256x256 : Shape := ⟨2, ![256, 256]⟩
abbrev S4x10x80x256x1 : Shape := ⟨5, ![4, 10, 80, 256, 1]⟩
abbrev S4x10x80x1x256 : Shape := ⟨5, ![4, 10, 80, 1, 256]⟩
abbrev S4x10x80x256x256 : Shape := ⟨5, ![4, 10, 80, 256, 256]⟩
abbrev S4x10x256x256 : Shape := ⟨4, ![4, 10, 256, 256]⟩
abbrev S4x10x1x256x256 : Shape := ⟨5, ![4, 10, 1, 256, 256]⟩
abbrev S4x10x80x64x256 : Shape := ⟨5, ![4, 10, 80, 64, 256]⟩
abbrev S4x10x256x80x1 : Shape := ⟨5, ![4, 10, 256, 80, 1]⟩
abbrev S4x10x80x64x128 : Shape := ⟨5, ![4, 10, 80, 64, 128]⟩
abbrev S4x10x1x1x1 : Shape := ⟨5, ![4, 10, 1, 1, 1]⟩
abbrev S4x80x64x128 : Shape := ⟨4, ![4, 80, 64, 128]⟩
abbrev S4x1x80 : Shape := ⟨3, ![4, 1, 80]⟩
abbrev S4x80 : Shape := ⟨2, ![4, 80]⟩
abbrev S4x80x1x1 : Shape := ⟨4, ![4, 80, 1, 1]⟩
abbrev S4x1x80x64x128 : Shape := ⟨5, ![4, 1, 80, 64, 128]⟩
abbrev S80x1 : Shape := ⟨2, ![80, 1]⟩
abbrev S1x1x1x80x1 : Shape := ⟨5, ![1, 1, 1, 80, 1]⟩
abbrev S4x80x64x2560 : Shape := ⟨4, ![4, 80, 64, 2560]⟩
abbrev S4x80x2560 : Shape := ⟨3, ![4, 80, 2560]⟩
abbrev S4x2560x128 : Shape := ⟨3, ![4, 2560, 128]⟩
abbrev S4x1x10 : Shape := ⟨3, ![4, 1, 10]⟩

abbrev nBuf : Space → Nat
  | .hbm => 327
  | .vmem => 0
  | .smem => 0
  | _ => 0

abbrev hbmTy0_0 (i : Nat) : BufTy := match i % 128 with
  | 0 => ⟨S4x2560x80x64, .bf16⟩
  | 1 => ⟨S4x2560x80, .f32⟩
  | 2 => ⟨S80, .f32⟩
  | 3 => ⟨S4x2560x1x128, .bf16⟩
  | 4 => ⟨S4x2560x1x128, .bf16⟩
  | 5 => ⟨S80, .f32⟩
  | 6 => ⟨S4x2560x80x64, .f32⟩
  | 7 => ⟨S4x2560x80x64, .f32⟩
  | 8 => ⟨S_, .f32⟩
  | 9 => ⟨S4x2560x80, .f32⟩
  | 10 => ⟨S4x2560x80x1, .f32⟩
  | 11 => ⟨S_, .f32⟩
  | 12 => ⟨S4x2560x80x1, .f32⟩
  | 13 => ⟨S4x2560x80x1, .f32⟩
  | 14 => ⟨S4x2560x80x1, .f32⟩
  | 15 => ⟨S_, .f32⟩
  | 16 => ⟨S_, .f32⟩
  | 17 => ⟨S4x2560x80x1, .f32⟩
  | 18 => ⟨S4x2560x80x1, .f32⟩
  | 19 => ⟨S4x2560x80x1, .f32⟩
  | 20 => ⟨S_, .f32⟩
  | 21 => ⟨S4x2560x80x1, .f32⟩
  | 22 => ⟨S4x2560x80x1, .f32⟩
  | 23 => ⟨S_, .f32⟩
  | 24 => ⟨S4x2560x80x1, .f32⟩
  | 25 => ⟨S4x2560x80x1, .i1⟩
  | 26 => ⟨S_, .f32⟩
  | 27 => ⟨S_, .f32⟩
  | 28 => ⟨S4x2560x80x1, .f32⟩
  | 29 => ⟨S4x2560x80x1, .f32⟩
  | 30 => ⟨S_, .f32⟩
  | 31 => ⟨S4x2560x80x1, .f32⟩
  | 32 => ⟨S4x2560x80x1, .f32⟩
  | 33 => ⟨S4x2560x80x1, .f32⟩
  | 34 => ⟨S4x2560x80x64, .f32⟩
  | 35 => ⟨S4x2560x80x64, .f32⟩
  | 36 => ⟨S_, .f32⟩
  | 37 => ⟨S_, .f32⟩
  | 38 => ⟨S_, .f32⟩
  | 39 => ⟨S4x2560x80x64, .f32⟩
  | 40 => ⟨S4x2560x80x64, .f32⟩
  | 41 => ⟨S_, .f32⟩
  | 42 => ⟨S4x2560x80x64, .f32⟩
  | 43 => ⟨S4x2560x80x64, .f32⟩
  | 44 => ⟨S4x2560x80x1, .f32⟩
  | 45 => ⟨S4x10x256x128, .bf16⟩
  | 46 => ⟨S4x10x256x128, .f32⟩
  | 47 => ⟨S4x10x256x128, .f32⟩
  | 48 => ⟨S_, .f32⟩
  | 49 => ⟨S4x10, .f32⟩
  | 50 => ⟨S4x10x1x1, .f32⟩
  | 51 => ⟨S_, .f32⟩
  | 52 => ⟨S4x10x1x1, .f32⟩
  | 53 => ⟨S4x10x1x1, .f32⟩
  | 54 => ⟨S4x10x1x1, .f32⟩
  | 55 => ⟨S_, .f32⟩
  | 56 => ⟨S_, .f32⟩
  | 57 => ⟨S4x10x1x1, .f32⟩
  | 58 => ⟨S4x10x1x1, .f32⟩
  | 59 => ⟨S4x10x1x1, .f32⟩
  | 60 => ⟨S_, .f32⟩
  | 61 => ⟨S4x10x1x1, .f32⟩
  | 62 => ⟨S4x10x1x1, .f32⟩
  | 63 => ⟨S_, .f32⟩
  | 64 => ⟨S4x10x1x1, .f32⟩
  | 65 => ⟨S4x10x1x1, .i1⟩
  | 66 => ⟨S_, .f32⟩
  | 67 => ⟨S_, .f32⟩
  | 68 => ⟨S4x10x1x1, .f32⟩
  | 69 => ⟨S4x10x1x1, .f32⟩
  | 70 => ⟨S_, .f32⟩
  | 71 => ⟨S4x10x1x1, .f32⟩
  | 72 => ⟨S4x10x1x1, .f32⟩
  | 73 => ⟨S4x10x1x1, .f32⟩
  | 74 => ⟨S4x10x256x128, .f32⟩
  | 75 => ⟨S4x10x256x128, .f32⟩
  | 76 => ⟨S_, .f32⟩
  | 77 => ⟨S_, .f32⟩
  | 78 => ⟨S_, .f32⟩
  | 79 => ⟨S4x10x256x128, .f32⟩
  | 80 => ⟨S4x10x256x128, .f32⟩
  | 81 => ⟨S_, .f32⟩
  | 82 => ⟨S4x10x256x128, .f32⟩
  | 83 => ⟨S4x10x256x128, .f32⟩
  | 84 => ⟨S4x10x1x1, .f32⟩
  | 85 => ⟨S4x10x256x128, .bf16⟩
  | 86 => ⟨S4x10x256x128, .f32⟩
  | 87 => ⟨S4x10x256x128, .f32⟩
  | 88 => ⟨S_, .f32⟩
  | 89 => ⟨S4x10, .f32⟩
  | 90 => ⟨S4x10x1x1, .f32⟩
  | 91 => ⟨S_, .f32⟩
  | 92 => ⟨S4x10x1x1, .f32⟩
  | 93 => ⟨S4x10x1x1, .f32⟩
  | 94 => ⟨S4x10x1x1, .f32⟩
  | 95 => ⟨S_, .f32⟩
  | 96 => ⟨S_, .f32⟩
  | 97 => ⟨S4x10x1x1, .f32⟩
  | 98 => ⟨S4x10x1x1, .f32⟩
  | 99 => ⟨S4x10x1x1, .f32⟩
  | 100 => ⟨S_, .f32⟩
  | 101 => ⟨S4x10x1x1, .f32⟩
  | 102 => ⟨S4x10x1x1, .f32⟩
  | 103 => ⟨S_, .f32⟩
  | 104 => ⟨S4x10x1x1, .f32⟩
  | 105 => ⟨S4x10x1x1, .i1⟩
  | 106 => ⟨S_, .f32⟩
  | 107 => ⟨S_, .f32⟩
  | 108 => ⟨S4x10x1x1, .f32⟩
  | 109 => ⟨S4x10x1x1, .f32⟩
  | 110 => ⟨S_, .f32⟩
  | 111 => ⟨S4x10x1x1, .f32⟩
  | 112 => ⟨S4x10x1x1, .f32⟩
  | 113 => ⟨S4x10x1x1, .f32⟩
  | 114 => ⟨S4x10x256x128, .f32⟩
  | 115 => ⟨S4x10x256x128, .f32⟩
  | 116 => ⟨S_, .f32⟩
  | 117 => ⟨S_, .f32⟩
  | 118 => ⟨S_, .f32⟩
  | 119 => ⟨S4x10x256x128, .f32⟩
  | 120 => ⟨S4x10x256x128, .f32⟩
  | 121 => ⟨S_, .f32⟩
  | 122 => ⟨S4x10x256x128, .f32⟩
  | 123 => ⟨S4x10x256x128, .f32⟩
  | 124 => ⟨S4x10x1x1, .f32⟩
  | 125 => ⟨S4x10, .f32⟩
  | 126 => ⟨S4x10, .f32⟩
  | 127 => ⟨S4x10x256x80x64, .bf16⟩
  | _ => ⟨S4x2560x80x64, .bf16⟩

abbrev hbmTy0_1 (i : Nat) : BufTy := match i % 128 with
  | 0 => ⟨S4x10x256x80x64, .f32⟩
  | 1 => ⟨S4x10x256x80x64, .bf16⟩
  | 2 => ⟨S4x10x256x80, .f32⟩
  | 3 => ⟨S4x10x256x80, .f32⟩
  | 4 => ⟨S1x1x1x80, .f32⟩
  | 5 => ⟨S4x10x256x80, .f32⟩
  | 6 => ⟨S4x10x256x80, .f32⟩
  | 7 => ⟨S_, .f32⟩
  | 8 => ⟨S_, .f32⟩
  | 9 => ⟨S4x10x256x80, .f32⟩
  | 10 => ⟨S4x10x1x80, .f32⟩
  | 11 => ⟨S4x10x80, .f32⟩
  | 12 => ⟨S4x10x80x256, .f32⟩
  | 13 => ⟨S_, .i1⟩
  | 14 => ⟨S256x256, .i1⟩
  | 15 => ⟨S256x256, .i32⟩
  | 16 => ⟨S_, .i32⟩
  | 17 => ⟨S256x256, .i32⟩
  | 18 => ⟨S256x256, .i32⟩
  | 19 => ⟨S256x256, .i32⟩
  | 20 => ⟨S256x256, .i1⟩
  | 21 => ⟨S_, .i1⟩
  | 22 => ⟨S256x256, .i1⟩
  | 23 => ⟨S256x256, .i1⟩
  | 24 => ⟨S4x10x80x256x1, .f32⟩
  | 25 => ⟨S4x10x80x1x256, .f32⟩
  | 26 => ⟨S4x10x80x256x256, .f32⟩
  | 27 => ⟨S4x10x80x256x256, .f32⟩
  | 28 => ⟨S4x10x80x256x256, .f32⟩
  | 29 => ⟨S_, .f32⟩
  | 30 => ⟨S_, .f32⟩
  | 31 => ⟨S4x10x80x256x256, .i1⟩
  | 32 => ⟨S4x10x80x256x256, .f32⟩
  | 33 => ⟨S4x10x80x256x256, .f32⟩
  | 34 => ⟨S4x10x80x256x256, .f32⟩
  | 35 => ⟨S4x10x256x256, .f32⟩
  | 36 => ⟨S4x10, .f32⟩
  | 37 => ⟨S4x10x1x1, .f32⟩
  | 38 => ⟨S4x10x256x256, .f32⟩
  | 39 => ⟨S4x10x256x256, .f32⟩
  | 40 => ⟨S4x10x256x80, .f32⟩
  | 41 => ⟨S4x10x80x256, .f32⟩
  | 42 => ⟨S4x10x1x256x256, .f32⟩
  | 43 => ⟨S4x10x80x256x256, .f32⟩
  | 44 => ⟨S4x10x80x256x256, .f32⟩
  | 45 => ⟨S4x10x80x1x256, .f32⟩
  | 46 => ⟨S4x10x80x256x256, .f32⟩
  | 47 => ⟨S4x10x80x256x256, .f32⟩
  | 48 => ⟨S4x10x80x256x256, .bf16⟩
  | 49 => ⟨S4x10x80x64x256, .f32⟩
  | 50 => ⟨S4x10x256x80x64, .f32⟩
  | 51 => ⟨S4x10x1x80, .f32⟩
  | 52 => ⟨S4x10x256x80, .f32⟩
  | 53 => ⟨S4x10x256x80, .f32⟩
  | 54 => ⟨S4x10x256x80, .f32⟩
  | 55 => ⟨S4x10x256x80, .f32⟩
  | 56 => ⟨S4x10x256x80, .f32⟩
  | 57 => ⟨S4x10x256x80, .bf16⟩
  | 58 => ⟨S4x10x256x80x1, .bf16⟩
  | 59 => ⟨S4x10x256x80x64, .bf16⟩
  | 60 => ⟨S4x10x256x80x64, .bf16⟩
  | 61 => ⟨S4x10x256x128, .bf16⟩
  | 62 => ⟨S4x10x80x64x128, .f32⟩
  | 63 => ⟨S4x10x1x1x1, .f32⟩
  | 64 => ⟨S4x10x80x64x128, .f32⟩
  | 65 => ⟨S4x10x80x64x128, .f32⟩
  | 66 => ⟨S_, .f32⟩
  | 67 => ⟨S4x80x64x128, .f32⟩
  | 68 => ⟨S4x1x80, .f32⟩
  | 69 => ⟨S4x80, .f32⟩
  | 70 => ⟨S4x80, .f32⟩
  | 71 => ⟨S4x80x1x1, .f32⟩
  | 72 => ⟨S4x80x64x128, .f32⟩
  | 73 => ⟨S4x80x64x128, .f32⟩
  | 74 => ⟨S4x1x80x64x128, .f32⟩
  | 75 => ⟨S4x80x64x128, .f32⟩
  | 76 => ⟨S4x80x64x128, .f32⟩
  | 77 => ⟨S4x1x80, .f32⟩
  | 78 => ⟨S4x80, .f32⟩
  | 79 => ⟨S4x80, .f32⟩
  | 80 => ⟨S4x80x1x1, .f32⟩
  | 81 => ⟨S4x80x64x128, .f32⟩
  | 82 => ⟨S4x80x64x128, .f32⟩
  | 83 => ⟨S4x1x80x64x128, .f32⟩
  | 84 => ⟨S4x80x64x128, .f32⟩
  | 85 => ⟨S4x80x64x128, .f32⟩
  | 86 => ⟨S4x1x80, .f32⟩
  | 87 => ⟨S4x80, .f32⟩
  | 88 => ⟨S4x80, .f32⟩
  | 89 => ⟨S4x80x1x1, .f32⟩
  | 90 => ⟨S4x80x64x128, .f32⟩
  | 91 => ⟨S4x80x64x128, .f32⟩
  | 92 => ⟨S4x1x80x64x128, .f32⟩
  | 93 => ⟨S4x80x64x128, .f32⟩
  | 94 => ⟨S4x80x64x128, .f32⟩
  | 95 => ⟨S4x1x80, .f32⟩
  | 96 => ⟨S4x80, .f32⟩
  | 97 => ⟨S4x80, .f32⟩
  | 98 => ⟨S4x80x1x1, .f32⟩
  | 99 => ⟨S4x80x64x128, .f32⟩
  | 100 => ⟨S4x80x64x128, .f32⟩
  | 101 => ⟨S4x1x80x64x128, .f32⟩
  | 102 => ⟨S4x80x64x128, .f32⟩
  | 103 => ⟨S4x80x64x128, .f32⟩
  | 104 => ⟨S4x1x80, .f32⟩
  | 105 => ⟨S4x80, .f32⟩
  | 106 => ⟨S4x80, .f32⟩
  | 107 => ⟨S4x80x1x1, .f32⟩
  | 108 => ⟨S4x80x64x128, .f32⟩
  | 109 => ⟨S4x80x64x128, .f32⟩
  | 110 => ⟨S4x1x80x64x128, .f32⟩
  | 111 => ⟨S4x80x64x128, .f32⟩
  | 112 => ⟨S4x80x64x128, .f32⟩
  | 113 => ⟨S4x1x80, .f32⟩
  | 114 => ⟨S4x80, .f32⟩
  | 115 => ⟨S4x80, .f32⟩
  | 116 => ⟨S4x80x1x1, .f32⟩
  | 117 => ⟨S4x80x64x128, .f32⟩
  | 118 => ⟨S4x80x64x128, .f32⟩
  | 119 => ⟨S4x1x80x64x128, .f32⟩
  | 120 => ⟨S4x80x64x128, .f32⟩
  | 121 => ⟨S4x80x64x128, .f32⟩
  | 122 => ⟨S4x1x80, .f32⟩
  | 123 => ⟨S4x80, .f32⟩
  | 124 => ⟨S4x80, .f32⟩
  | 125 => ⟨S4x80x1x1, .f32⟩
  | 126 => ⟨S4x80x64x128, .f32⟩
  | 127 => ⟨S4x80x64x128, .f32⟩
  | _ => ⟨S4x2560x80x64, .bf16⟩

abbrev hbmTy0_2 (i : Nat) : BufTy := match i % 128 with
  | 0 => ⟨S4x1x80x64x128, .f32⟩
  | 1 => ⟨S4x80x64x128, .f32⟩
  | 2 => ⟨S4x80x64x128, .f32⟩
  | 3 => ⟨S4x1x80, .f32⟩
  | 4 => ⟨S4x80, .f32⟩
  | 5 => ⟨S4x80, .f32⟩
  | 6 => ⟨S4x80x1x1, .f32⟩
  | 7 => ⟨S4x80x64x128, .f32⟩
  | 8 => ⟨S4x80x64x128, .f32⟩
  | 9 => ⟨S4x1x80x64x128, .f32⟩
  | 10 => ⟨S4x80x64x128, .f32⟩
  | 11 => ⟨S4x80x64x128, .f32⟩
  | 12 => ⟨S4x1x80, .f32⟩
  | 13 => ⟨S4x80, .f32⟩
  | 14 => ⟨S4x80, .f32⟩
  | 15 => ⟨S4x80x1x1, .f32⟩
  | 16 => ⟨S4x80x64x128, .f32⟩
  | 17 => ⟨S4x80x64x128, .f32⟩
  | 18 => ⟨S4x1x80x64x128, .f32⟩
  | 19 => ⟨S4x80x64x128, .f32⟩
  | 20 => ⟨S4x80x64x128, .f32⟩
  | 21 => ⟨S4x1x80, .f32⟩
  | 22 => ⟨S4x80, .f32⟩
  | 23 => ⟨S4x80, .f32⟩
  | 24 => ⟨S4x80x1x1, .f32⟩
  | 25 => ⟨S4x80x64x128, .f32⟩
  | 26 => ⟨S4x80x64x128, .f32⟩
  | 27 => ⟨S4x1x80x64x128, .f32⟩
  | 28 => ⟨S4x80x64x128, .f32⟩
  | 29 => ⟨S4x80x64x128, .f32⟩
  | 30 => ⟨S4x1x80x64x128, .f32⟩
  | 31 => ⟨S4x1x80x64x128, .f32⟩
  | 32 => ⟨S4x1x80x64x128, .f32⟩
  | 33 => ⟨S4x1x80x64x128, .f32⟩
  | 34 => ⟨S4x1x80x64x128, .f32⟩
  | 35 => ⟨S4x1x80x64x128, .f32⟩
  | 36 => ⟨S4x1x80x64x128, .f32⟩
  | 37 => ⟨S4x1x80x64x128, .f32⟩
  | 38 => ⟨S4x1x80x64x128, .f32⟩
  | 39 => ⟨S4x1x80x64x128, .f32⟩
  | 40 => ⟨S4x10x80x64x128, .f32⟩
  | 41 => ⟨S4x10x256x128, .bf16⟩
  | 42 => ⟨S4x10x80x64x128, .bf16⟩
  | 43 => ⟨S4x10x256x80x64, .f32⟩
  | 44 => ⟨S4x10x1x1x1, .f32⟩
  | 45 => ⟨S4x10x256x80x64, .f32⟩
  | 46 => ⟨S4x10x256x80x64, .f32⟩
  | 47 => ⟨S4x10x256x80, .f32⟩
  | 48 => ⟨S4x10x256x80x1, .f32⟩
  | 49 => ⟨S4x10x256x80x64, .f32⟩
  | 50 => ⟨S4x10x256x80x64, .f32⟩
  | 51 => ⟨S4x10x256x80x64, .f32⟩
  | 52 => ⟨S80x1, .f32⟩
  | 53 => ⟨S4x10x256x80x64, .f32⟩
  | 54 => ⟨S1x1x1x80x1, .f32⟩
  | 55 => ⟨S4x10x256x80x64, .f32⟩
  | 56 => ⟨S4x10x256x80x64, .f32⟩
  | 57 => ⟨S4x10x256x80x64, .f32⟩
  | 58 => ⟨S4x10x256x80x64, .bf16⟩
  | 59 => ⟨S4x2560x80x64, .bf16⟩
  | 60 => ⟨S4x80x64x2560, .bf16⟩
  | 61 => ⟨S4x2560x80x64, .fp8e4m3⟩
  | 62 => ⟨S4x80x64x2560, .fp8e4m3⟩
  | 63 => ⟨S4x2560x80, .f32⟩
  | 64 => ⟨S4x80x2560, .f32⟩
  | 65 => ⟨S4x2560x128, .f32⟩
  | 66 => ⟨S4x2560x128, .fp8e4m3⟩
  | 67 => ⟨S4x1x10, .f32⟩
  | 68 => ⟨S4x2560x128, .f32⟩
  | 69 => ⟨S4x2560x128, .fp8e4m3⟩
  | 70 => ⟨S4x1x10, .f32⟩
  | _ => ⟨S4x2560x80x64, .bf16⟩

abbrev hbmTy (i : Nat) : BufTy := match i / 128 with
  | 0 => hbmTy0_0 i
  | 1 => hbmTy0_1 i
  | 2 => hbmTy0_2 i
  | _ => ⟨S4x2560x80x64, .bf16⟩

abbrev bufTy : (tb : Table) → Fin (tcTables nBuf tb) → BufTy
  | .hbm, ⟨i, _⟩ => hbmTy i
  | _, _ => ⟨S4x2560x80x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_8 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_cst_12 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_call2_v0 : Ref sig .tc := ⟨.hbm, 67, rfl⟩
abbrev main_call2_v1 : Ref sig .tc := ⟨.hbm, 68, rfl⟩
abbrev main_v39 : Ref sig .tc := ⟨.hbm, 69, rfl⟩
abbrev main_cst_14 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_cst_16 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_v51 : Ref sig .tc := ⟨.hbm, 90, rfl⟩
abbrev main_cst_18 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_19 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_20 : Ref sig .tc := ⟨.hbm, 100, rfl⟩
abbrev main_v59 : Ref sig .tc := ⟨.hbm, 101, rfl⟩
abbrev main_v60 : Ref sig .tc := ⟨.hbm, 102, rfl⟩
abbrev main_cst_21 : Ref sig .tc := ⟨.hbm, 103, rfl⟩
abbrev main_v61 : Ref sig .tc := ⟨.hbm, 104, rfl⟩
abbrev main_v62 : Ref sig .tc := ⟨.hbm, 105, rfl⟩
abbrev main_cst_22 : Ref sig .tc := ⟨.hbm, 106, rfl⟩
abbrev main_call4_v0 : Ref sig .tc := ⟨.hbm, 107, rfl⟩
abbrev main_call4_v1 : Ref sig .tc := ⟨.hbm, 108, rfl⟩
abbrev main_v63 : Ref sig .tc := ⟨.hbm, 109, rfl⟩
abbrev main_cst_23 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_24 : Ref sig .tc := ⟨.hbm, 116, rfl⟩
abbrev main_cst_25 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_call6_call0_cst : Ref sig .tc := ⟨.hbm, 135, rfl⟩
abbrev main_call6_call0_v0 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c : Ref sig .tc := ⟨.hbm, 141, rfl⟩
abbrev main_v85 : Ref sig .tc := ⟨.hbm, 142, rfl⟩
abbrev main_call7_v0 : Ref sig .tc := ⟨.hbm, 143, rfl⟩
abbrev main_call7_c : Ref sig .tc := ⟨.hbm, 144, rfl⟩
abbrev main_call7_v1 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_call7_c_0 : Ref sig .tc := ⟨.hbm, 149, rfl⟩
abbrev main_call7_v5 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_cst_26 : Ref sig .tc := ⟨.hbm, 157, rfl⟩
abbrev main_call8_v0 : Ref sig .tc := ⟨.hbm, 158, rfl⟩
abbrev main_call8_v1 : Ref sig .tc := ⟨.hbm, 159, rfl⟩
abbrev main_call8_v2 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_27 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩

abbrev nD : Nat := 1
abbrev τ : Topo := Topo.v7x

variable {F : FTy → Type} [FloatOps F]
-- ==== Proof.Scale.lean ====
module

public import Idealize.ShloMosaic.Lib.Pointwise

/-!
# The power-of-two scale of a block

A block whose largest absolute value is `m` is divided by `2 ^ e`, where `r = m / 448` and `e` is the exponent of `r` plus
one (`0` for an `r` below the smallest normal number). The reference computes `e` with a logarithm; the kernel finds the
exponent field of `r` by binary search over the eight bits of the field, and builds `2 ^ e` and `2 ^ -e` from the field. This
module proves that the two are the same numbers.
-/

@[expose] public section

noncomputable section

open Idealize.ShloMosaic

namespace Cert.Ssd

/-- The constant the largest absolute value is multiplied by (`1 / 448` rounded to float32). -/
def c448 : ℝ := 9586981 * 2 ^ (-32 : ℤ)

theorem ofBits_c448 : Ideal.ofBits .f32 0x3B124925#32 = ((c448 : ℝ) : EReal) := by
  simp [Ideal.ofBits, Ideal.ieee, c448]

theorem c448_pos : 0 < c448 := by unfold c448; positivity

/-- The exponent of the scale, for a real `r`. -/
def rexp (r : ℝ) : ℤ := if r < 2 ^ (-126 : ℤ) then 0 else ⌊Real.log r / Real.log 2⌋ + 1

/-- The scale of a block whose largest absolute value is `m`. -/
def scl (m : EReal) : ℝ := 2 ^ rexp (m.toReal * c448)

/-- The reciprocal of the scale. -/
def isc (m : EReal) : ℝ := 2 ^ (-rexp (m.toReal * c448))

theorem scl_pos (m : EReal) : 0 < scl m := by unfold scl; positivity
theorem isc_pos (m : EReal) : 0 < isc m := by unfold isc; positivity
theorem isc_eq (m : EReal) : isc m = 1 / scl m := by unfold isc scl; rw [zpow_neg, one_div]

/-! ## The kernel's binary search -/

/-- The float32 whose exponent field is `n` and whose fraction is zero. -/
theorem ofBits_pow (n : ℕ) (h1 : 1 ≤ n) (h2 : n ≤ 254) :
    Ideal.ofBits .f32 (IntOp.shli ArithUnit.vector (BitVec.ofNat 32 n) 23#32) = (((2 : ℝ) ^ ((n : ℤ) - 127) : ℝ) : EReal) := by
  have hs : IntOp.shli ArithUnit.vector (BitVec.ofNat 32 n) 23#32 = BitVec.ofNat 32 n <<< 23 := by
    simp [IntOp.shli]
  have key : ∀ k : Fin 256, ((BitVec.ofNat 32 k.val <<< 23).extractLsb' 23 8).toNat = k.val
      ∧ ((BitVec.ofNat 32 k.val <<< 23).extractLsb' 0 23).toNat = 0
      ∧ ((BitVec.ofNat 32 k.val <<< 23).extractLsb' 31 1 == 1#1) = false := by decide
  obtain ⟨hx, hf, hn⟩ := key ⟨n, by omega⟩
  simp only at hx hf hn
  rw [hs]
  simp only [Ideal.ofBits, Ideal.ieee, hx, hf, hn]
  rw [if_neg (by omega), if_neg (by omega)]
  refine congrArg (fun z : ℝ => (z : EReal)) ?_
  have e : (n : ℤ) - ((2 : ℤ) ^ (8 - 1) - 1) - ((23 : ℕ) : ℤ) = ((n : ℤ) - 127) - 23 := by norm_num
  rw [e, zpow_sub₀ (by norm_num : (2 : ℝ) ≠ 0)]
  simp only [Bool.false_eq_true, if_false, one_mul, Nat.add_zero]
  push_cast
  rw [show (2 : ℝ) ^ (23 : ℤ) = 2 ^ 23 by norm_cast]
  field_simp
  norm_num

/-- One step of the search: the bit `k` of the field is kept when `r` is at least the number it gives. -/
def rung (r : EReal) (e k : BitVec 32) : BitVec 32 :=
  Scalar.select (Ideal.cmp .oge r (Ideal.ofBits .f32 (IntOp.shli ArithUnit.vector (IntOp.addi e k) 23#32))) (IntOp.addi e k) e

/-- The whole search. -/
def ladder (r : EReal) : BitVec 32 :=
  rung r (rung r (rung r (rung r (rung r (rung r (rung r (rung r 0#32 128#32) 64#32) 32#32) 16#32) 8#32) 4#32) 2#32) 1#32

/-- The field the kernel uses: `126` where the search found nothing. -/
def field (r : EReal) : BitVec 32 := Scalar.select (IntOp.cmpi .eq (ladder r) 0#32) 126#32 (ladder r)

/-- The kernel's scale. -/
def kscl (r : EReal) : EReal := Ideal.ofBits .f32 (IntOp.shli ArithUnit.vector (IntOp.addi (field r) 1#32) 23#32)

/-- The kernel's reciprocal of the scale. -/
def kisc (r : EReal) : EReal := Ideal.ofBits .f32 (IntOp.shli ArithUnit.vector (IntOp.subi 253#32 (field r)) 23#32)

/-- What the search knows after a step of size `k`: `r` lies between the numbers of the fields `n` and `n + k`. -/
def Between (r : ℝ) (n k : ℕ) : Prop :=
  (n = 0 ∨ (2 : ℝ) ^ ((n : ℤ) - 127) ≤ r) ∧ r < (2 : ℝ) ^ (((n + k : ℕ) : ℤ) - 127)

theorem rung_step (r : ℝ) (n k : ℕ) (hk : 1 ≤ k) (hn : n + k ≤ 254) (h : Between r n (2 * k)) :
    ∃ n', rung r (BitVec.ofNat 32 n) (BitVec.ofNat 32 k) = BitVec.ofNat 32 n' ∧ Between r n' k ∧ (n' = n ∨ n' = n + k) := by
  have hadd : IntOp.addi (BitVec.ofNat 32 n) (BitVec.ofNat 32 k) = BitVec.ofNat 32 (n + k) := by
    simp [IntOp.addi, BitVec.ofNat_add]
  unfold rung
  rw [hadd, ofBits_pow (n + k) (by omega) hn]
  by_cases hc : (2 : ℝ) ^ (((n + k : ℕ) : ℤ) - 127) ≤ r
  · refine ⟨n + k, ?_, ⟨Or.inr hc, ?_⟩, Or.inr rfl⟩
    · have : Ideal.cmp .oge (r : EReal) (((2 : ℝ) ^ (((n + k : ℕ) : ℤ) - 127) : ℝ) : EReal) = 1#1 := by
        simp only [Ideal.cmp]
        rw [decide_eq_true (EReal.coe_le_coe_iff.2 hc)]; rfl
      rw [this]; rfl
    · have := h.2
      rwa [show n + k + k = n + 2 * k by ring]
  · refine ⟨n, ?_, ⟨h.1, not_le.1 hc⟩, Or.inl rfl⟩
    have : Ideal.cmp .oge (r : EReal) (((2 : ℝ) ^ (((n + k : ℕ) : ℤ) - 127) : ℝ) : EReal) = 0#1 := by
      simp only [Ideal.cmp]
      rw [decide_eq_false (fun h' => hc (EReal.coe_le_coe_iff.1 h'))]; rfl
    rw [this]; rfl

/-- What the search finds: the exponent field of `r`, or `0` for an `r` below the smallest normal number. -/
theorem ladder_eq (r : ℝ) (hr : r < 2 ^ (120 : ℤ)) :
    ∃ n : ℕ, ladder r = BitVec.ofNat 32 n ∧ n ≤ 247 ∧ Between r n 1 := by
  have h0 : Between r 0 (2 * 128) := ⟨Or.inl rfl, lt_trans hr (zpow_lt_zpow_right₀ (by norm_num) (by norm_num))⟩
  obtain ⟨n1, e1, b1, o1⟩ := rung_step r 0 128 (by norm_num) (by omega) h0
  obtain ⟨n2, e2, b2, o2⟩ := rung_step r n1 64 (by norm_num) (by omega) b1
  obtain ⟨n3, e3, b3, o3⟩ := rung_step r n2 32 (by norm_num) (by omega) b2
  obtain ⟨n4, e4, b4, o4⟩ := rung_step r n3 16 (by norm_num) (by omega) b3
  obtain ⟨n5, e5, b5, o5⟩ := rung_step r n4 8 (by norm_num) (by omega) b4
  obtain ⟨n6, e6, b6, o6⟩ := rung_step r n5 4 (by norm_num) (by omega) b5
  obtain ⟨n7, e7, b7, o7⟩ := rung_step r n6 2 (by norm_num) (by omega) b6
  have lt_of (n k : ℕ) (hk : 247 < n) (hb : Between r n k) : False := by
    rcases hb.1 with h | h
    · omega
    · have : (2 : ℝ) ^ (120 : ℤ) ≤ 2 ^ ((n : ℤ) - 127) := zpow_le_zpow_right₀ (by norm_num) (by omega)
      linarith
  have l7 : n7 ≤ 247 := by by_contra hh; exact lt_of n7 2 (by omega) b7
  obtain ⟨n8, e8, b8, o8⟩ := rung_step r n7 1 (by norm_num) (by omega) b7
  refine ⟨n8, ?_, ?_, b8⟩
  · unfold ladder
    simp only [e1, e2, e3, e4, e5, e6, e7, e8]
  · by_contra hh; exact lt_of n8 1 (by omega) b8

/-- The exponent of a real between two powers of two. -/
theorem rexp_of_between (r : ℝ) (n : ℕ) (hn : 1 ≤ n) (h : Between r n 1) : rexp r = (n : ℤ) - 126 := by
  have hlo : (2 : ℝ) ^ ((n : ℤ) - 127) ≤ r := h.1.resolve_left (by omega)
  have hhi : r < (2 : ℝ) ^ ((n : ℤ) - 126) := by
    have := h.2; rwa [show (((n + 1 : ℕ) : ℤ) - 127) = (n : ℤ) - 126 by push_cast; ring] at this
  have hpos : 0 < r := lt_of_lt_of_le (by positivity) hlo
  have hl2 : 0 < Real.log 2 := Real.log_pos (by norm_num)
  unfold rexp
  rw [if_neg]
  · have : ⌊Real.log r / Real.log 2⌋ = (n : ℤ) - 127 := by
      rw [Int.floor_eq_iff]
      constructor
      · rw [le_div_iff₀ hl2]
        have := Real.log_le_log (by positivity) hlo
        rwa [Real.log_zpow] at this
      · rw [div_lt_iff₀ hl2]
        have := Real.log_lt_log hpos hhi
        rw [Real.log_zpow] at this
        push_cast at this ⊢
        linarith
    rw [this]; ring
  · rw [not_lt]
    exact le_trans (zpow_le_zpow_right₀ (by norm_num) (by omega)) hlo

/-- The kernel's field is the exponent plus `126`. -/
theorem field_eq (r : ℝ) (hr : r < 2 ^ (120 : ℤ)) :
    ∃ n : ℕ, field r = BitVec.ofNat 32 n ∧ 1 ≤ n ∧ n ≤ 247 ∧ (n : ℤ) - 126 = rexp r := by
  obtain ⟨n, hl, hn, hb⟩ := ladder_eq r hr
  unfold field
  rw [hl]
  rcases Nat.eq_zero_or_pos n with h0 | h0
  · refine ⟨126, ?_, by norm_num, by norm_num, ?_⟩
    · subst h0; rfl
    · subst h0
      have : r < 2 ^ (-126 : ℤ) := by simpa using hb.2
      unfold rexp
      rw [if_pos this]; norm_num
  · refine ⟨n, ?_, h0, hn, (rexp_of_between r n h0 hb).symm⟩
    have hne : BitVec.ofNat 32 n ≠ 0#32 := by
      intro h
      have := congrArg BitVec.toNat h
      simp at this
      omega
    have : IntOp.cmpi .eq (BitVec.ofNat 32 n) 0#32 = 0#1 := by
      simp only [IntOp.cmpi]
      rw [beq_false_of_ne hne]; rfl
    rw [this]; rfl

theorem kscl_eq (m : EReal) (h0 : 0 ≤ m) (h : m.toReal * c448 < 2 ^ (120 : ℤ)) (ht : m ≠ ⊤) :
    kscl (m * (c448 : ℝ)) = (scl m : EReal) := by
  lift m to ℝ using ⟨ht, fun hb => by simp [hb] at h0⟩
  rw [← EReal.coe_mul]
  obtain ⟨n, hf, h1, h2, he⟩ := field_eq (m * c448) h
  unfold kscl scl
  rw [hf, show IntOp.addi (BitVec.ofNat 32 n) 1#32 = BitVec.ofNat 32 (n + 1) by simp [IntOp.addi, BitVec.ofNat_add],
    ofBits_pow (n + 1) (by omega) (by omega)]
  rw [EReal.toReal_coe, ← he]
  congr 2
  push_cast; ring

theorem kisc_eq (m : EReal) (h0 : 0 ≤ m) (h : m.toReal * c448 < 2 ^ (120 : ℤ)) (ht : m ≠ ⊤) :
    kisc (m * (c448 : ℝ)) = (isc m : EReal) := by
  lift m to ℝ using ⟨ht, fun hb => by simp [hb] at h0⟩
  rw [← EReal.coe_mul]
  obtain ⟨n, hf, h1, h2, he⟩ := field_eq (m * c448) h
  unfold kisc isc
  have hsub : IntOp.subi 253#32 (BitVec.ofNat 32 n) = BitVec.ofNat 32 (253 - n) := by
    apply BitVec.eq_of_toNat_eq
    simp only [IntOp.subi, BitVec.toNat_sub, BitVec.toNat_ofNat]
    omega
  rw [hf, hsub, ofBits_pow (253 - n) (by omega) (by omega)]
  rw [EReal.toReal_coe, ← he]
  congr 2
  rw [Nat.cast_sub (by omega)]
  push_cast; ring

/-! ## The reference's logarithm -/

/-- The exponent as the reference computes it. -/
def rfexp (r : EReal) : EReal :=
  if r < Ideal.ofBits .f32 0x00800000#32 then 0
  else Ideal.liftRound Int.floor (Ideal.div (Ideal.log r) (Ideal.log ((2 : ℝ) : EReal))) + 1

theorem ofBits_tiny : Ideal.ofBits .f32 0x00800000#32 = (((2 : ℝ) ^ (-126 : ℤ) : ℝ) : EReal) := by
  have := ofBits_pow 1 (by norm_num) (by norm_num)
  rw [show IntOp.shli ArithUnit.vector (BitVec.ofNat 32 1) 23#32 = 0x00800000#32 by rfl] at this
  rw [this]; norm_num

theorem rfexp_eq (m : EReal) (h0 : 0 ≤ m) (ht : m ≠ ⊤) :
    rfexp (m * (c448 : ℝ)) = ((rexp (m.toReal * c448) : ℝ) : EReal) := by
  lift m to ℝ using ⟨ht, fun hb => by simp [hb] at h0⟩
  rw [← EReal.coe_mul, EReal.toReal_coe]
  unfold rfexp rexp
  rw [ofBits_tiny]
  by_cases hc : m * c448 < 2 ^ (-126 : ℤ)
  · rw [if_pos (EReal.coe_lt_coe_iff.2 hc), if_pos hc]; simp
  · rw [if_neg (fun h => hc (EReal.coe_lt_coe_iff.1 h)), if_neg hc]
    have hpos : 0 < m * c448 := lt_of_lt_of_le (by positivity) (not_lt.1 hc)
    have hl2 : Real.log 2 ≠ 0 := ne_of_gt (Real.log_pos (by norm_num))
    rw [Ideal.log_coe, if_neg (not_le.2 hpos), Ideal.log_coe, if_neg (by norm_num), Ideal.div_coe hl2, ← EReal.coe_mul,
      Ideal.liftRound_coe, mul_one_div]
    push_cast
    rfl

theorem pow_rfexp (m : EReal) (h0 : 0 ≤ m) (ht : m ≠ ⊤) :
    Ideal.pow ((2 : ℝ) : EReal) (rfexp (m * (c448 : ℝ))) = (scl m : EReal) := by
  rw [rfexp_eq m h0 ht, Ideal.pow_coe_coe]
  unfold scl
  rw [← Real.rpow_intCast]
  rfl

end Cert.Ssd
-- ==== Proof.Kern.lean ====
module

public import Idealize.ShloMosaic.Lib.Pointwise
public import proofs.«01_k».proof.Proof.Gen.KernelIdeal.Skeleton
public import proofs.«01_k».proof.Proof.Scale

/-!
The vector expressions of the kernel's body, each written once as a function of the vectors it reads.
The eighty unrolled heads of the body are instances of these functions, so that one lemma per function
serves all of them.
-/

@[expose] public section

set_option maxRecDepth 16384

noncomputable section

open Idealize.ShloMosaic Idealize.ShloMosaic.TcCoe Idealize.SL.Sem
open Cert.KernelIdeal Cert.KernelIdeal.Gen

namespace Cert.Ssd

/-- The f32 literal `log2e`, which the program names. -/
def kL : Ideal .f32 := Named.named Cert.KernelIdeal.κ "log2e" 0x3FB8AA3B#32

/-- The largest absolute values of the columns of a 256 by 128 block. -/
def kMaxCol (v3 : FVec Ideal S1x256x128 .bf16) : FVec Ideal S1x128 .bf16 :=
  shapeCast S1x128 (multiReduction .maximumf [0] S128
    (absf (shapeCast S256x128 v3 shapeCasts_S1x256x128_S256x128))
    0xFF80#16 reduces_S256x128_S128 (.inr rfl) rfl) shapeCasts_S128_S1x128

/-- The largest of a row. -/
def kMaxRow (v : FVec Ideal S1x128 .f32) : FVec Ideal S1x1 .f32 :=
  shapeCast S1x1 (multiReduction .maximumf [1] S1 v 0xFF800000#32 reduces_S1x128_S1 (.inl rfl) rfl) shapeCasts_S1_S1x1

/-- The largest absolute value of a 256 by 128 block, times 1/448. -/
def kAmaxB (v3 : FVec Ideal S1x256x128 .bf16) : FVec Ideal S1x1 .f32 :=
  mulf (kMaxRow (extf .f32 (kMaxCol v3) bitsLt_bf16_f32))
    (broadcast S1x1 (Scalar.ofBits .f32 0x3B124925#32))

/-- The codes of a 256 by 128 block. -/
def kCodesB (v4 : FVec Ideal S256x128 .bf16) (v85 : FVec Ideal S1x1 .f32) :
    FVec Ideal S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf v4 (broadcastTo S256x128 (truncf .bf16 v85 bitsLt_bf16_f32) broadcasts_S1x1_S256x128))))
    bitsLt_fp8e4m3_bf16

/-- The products of the codes of B and of C, scaled. -/
def kCb (v80 v159 : FVec Ideal S1x1 .f32) (v174 v184 : FVec Ideal S256x128 .fp8e4m3) :
    FVec Ideal S256x256 .f32 :=
  shapeCast S256x256 (mulf (matmul dot_S256x128_S256x128_S256x256_1_1_0_0_n_n none v174 v184
      (constant S256x256 .f32 0x00000000#32))
    (broadcastTo S256x256 (mulf v159 v80) broadcasts_S1x1_S256x256)) shapeCasts_S256x256_S256x256

/-- One lane of a row of scales replaced. -/
def kLane (c : BitVec 32) (v80 : FVec Ideal S1x1 .f32) (v194 : FVec Ideal S1x1x10 .f32) :
    FVec Ideal S1x1x10 .f32 :=
  shapeCast S1x1x10 (select (cmpi .eq (iota .tc S1x10 32 [1] iota_S1x10_d1_w32) (broadcast S1x10 c))
    (broadcastTo S1x10 (shapeCast S1x1 v80 shapeCasts_S1x1_S1x1) broadcasts_S1x1_S1x10)
    (shapeCast S1x10 v194 shapeCasts_S1x1x10_S1x10)) shapeCasts_S1x10_S1x1x10

/-- The largest absolute values of one head's rows. -/
def kAmaxX (v221 : FVec Ideal S1x1x64x256 .bf16) : FVec Ideal S1x256 .f32 :=
  shapeCast S1x256 (extf .f32 (shapeCast S1x256 (multiReduction .maximumf [0] S256
    (absf (shapeCast S64x256 v221 shapeCasts_S1x1x64x256_S64x256))
    0xFF80#16 reduces_S64x256_S256 (.inr rfl) rfl) shapeCasts_S256_S1x256) bitsLt_bf16_f32)
    shapeCasts_S1x256_S1x256

/-- The upper triangle of ones. -/
def kUp : FVec Ideal S256x256 .bf16 :=
  truncf .bf16 (sitofp .f32 (extui 32 (cmpi .sle (iota .tc S256x256 32 [0] iota_S256x256_d0_w32)
    (iota .tc S256x256 32 [1] iota_S256x256_d1_w32)) natLt_1_32)) bitsLt_bf16_f32

/-- A product with the triangle of ones. -/
def kMm (u : FVec Ideal S80x256 .bf16) : FVec Ideal S80x256 .f32 :=
  matmul dot_S80x256_S256x256_S80x256_1_0_0_1_n_n none u kUp (constant S80x256 .f32 0x00000000#32)

/-- What is left of a vector after its bf16 part. -/
def kRest (w : FVec Ideal S80x256 .f32) : FVec Ideal S80x256 .f32 :=
  subf w (extf .f32 (truncf .bf16 w bitsLt_bf16_f32) bitsLt_bf16_f32)

/-- The prefix sums, in three parts, times `log2e`. -/
def kA2 (w : FVec Ideal S80x256 .f32) : FVec Ideal S80x256 .f32 :=
  mulf (addf (kMm (truncf .bf16 w bitsLt_bf16_f32))
    (addf (kMm (truncf .bf16 (kRest w) bitsLt_bf16_f32))
      (kMm (truncf .bf16 (kRest (kRest w)) bitsLt_bf16_f32))))
    (broadcast S80x256 kL)

/-- `exp2` of the prefix sums, times the scale of C. -/
def kE (v159 : FVec Ideal S1x1 .f32) (a2 : FVec Ideal S80x256 .f32) : FVec Ideal S80x256 .f32 :=
  shapeCast S80x256 (mulf (exp2 a2) (broadcastTo S80x256 v159 broadcasts_S1x1_S80x256))
    shapeCasts_S80x256_S80x256

/-- The weights of the state update. -/
def kWs (v80 : FVec Ideal S1x1 .f32) (dx a2 : FVec Ideal S80x256 .f32) : FVec Ideal S80x256 .f32 :=
  shapeCast S80x256 (mulf (extf .f32 (truncf .bf16 (mulf (exp2 (subf
      (broadcastTo S80x256 (extractStridedSlice S80x1 ![0, 255] a2 slices_S80x256_o0_255_S80x1)
        broadcasts_S80x1_S80x256) a2)) dx) bitsLt_bf16_f32) bitsLt_bf16_f32)
    (broadcastTo S80x256 v80 broadcasts_S1x1_S80x256)) shapeCasts_S80x256_S80x256

/-- `exp2` of the last prefix sum of every head. -/
def kAe (a2 : FVec Ideal S80x256 .f32) : FVec Ideal S80x128 .f32 :=
  shapeCast S80x128 (broadcastTo S80x128 (shapeCast S80x1
    (exp2 (extractStridedSlice S80x1 ![0, 255] a2 slices_S80x256_o0_255_S80x1)) shapeCasts_S80x1_S80x1)
    broadcasts_S80x1_S80x128) shapeCasts_S80x128_S80x128

/-- The prefix sums minus the logarithm of the step times the scale, transposed. -/
def kBt (dx a2 : FVec Ideal S80x256 .f32) : FVec Ideal S256x80 .f32 :=
  shapeCast S256x80 (transpose S256x80 [1, 0] (subf a2 (mulf (log dx) (broadcast S80x256 kL)))
    transposes_S80x256_p1_0_S256x80) shapeCasts_S256x80_S256x80

/-- One head's codes. -/
def kCodesX (v514 : FVec Ideal S1x1x64x256 .bf16) (v516 : FVec Ideal S1x256 .f32) :
    FVec Ideal S64x256 .fp8e4m3 :=
  truncf .fp8e4m3 (minimumf (broadcast S64x256 (Scalar.truncf .bf16 bitsLt_bf16_f32 (Scalar.ofBits .f32 0x43E00000#32)))
    (maximumf (broadcast S64x256 (Scalar.truncf .bf16 bitsLt_bf16_f32 (Scalar.ofBits .f32 0xC3E00000#32)))
      (mulf (shapeCast S64x256 v514 shapeCasts_S1x1x64x256_S64x256)
        (broadcastTo S64x256 (truncf .bf16 v516 bitsLt_bf16_f32) broadcasts_S1x256_S64x256))))
    bitsLt_fp8e4m3_bf16

/-- One head's codes as they are stored. -/
def kXc (v514 : FVec Ideal S1x1x64x256 .bf16) (v516 : FVec Ideal S1x256 .f32) :
    FVec Ideal S1x1x64x256 .fp8e4m3 :=
  shapeCast S1x1x64x256 (kCodesX v514 v516) shapeCasts_S64x256_S1x1x64x256

/-- One head's codes times the weights of the state update. -/
def kXw (v514 : FVec Ideal S1x1x64x256 .bf16) (v516 v531 : FVec Ideal S1x256 .f32) :
    FVec Ideal S64x256 .bf16 :=
  mulf (extf .bf16 (kCodesX v514 v516) bitsLt_fp8e4m3_bf16)
    (broadcastTo S64x256 (truncf .bf16 v531 bitsLt_bf16_f32) broadcasts_S1x256_S64x256)

/-- The comparison of positions inside a diagonal tile. -/
def kTri : IVec S128x128 1 :=
  cmpi .sle
    (extractStridedSlice S128x128 ![0, 0] (iota .tc S256x256 32 [0] iota_S256x256_d0_w32) slices_S256x256_o0_0_S128x128)
    (extractStridedSlice S128x128 ![0, 0] (iota .tc S256x256 32 [1] iota_S256x256_d1_w32) slices_S256x256_o0_0_S128x128)

/-- A tile on the diagonal: masked weights. -/
def kDiag (a : FVec Ideal S1x128 .f32) (b : FVec Ideal S128x1 .f32) (cb : FVec Ideal S128x128 .f32) :
    FVec Ideal S128x128 .bf16 :=
  truncf .bf16 (mulf (exp2 (select kTri
    (subf (broadcastTo S128x128 a broadcasts_S1x128_S128x128) (broadcastTo S128x128 b broadcasts_S128x1_S128x128))
    (broadcast S128x128 (Scalar.ofBits .f32 0xFF800000#32)))) cb) bitsLt_bf16_f32

/-- A tile above the diagonal: weights without a mask. -/
def kOff (a : FVec Ideal S1x128 .f32) (b : FVec Ideal S128x1 .f32) (cb : FVec Ideal S128x128 .f32) :
    FVec Ideal S128x128 .bf16 :=
  truncf .bf16 (mulf (exp2 (subf (broadcastTo S128x128 a broadcasts_S1x128_S128x128)
    (broadcastTo S128x128 b broadcasts_S128x1_S128x128))) cb) bitsLt_bf16_f32

/-- The four tiles of one head's weights. -/
def kTiles (d0 o d1 : FVec Ideal S128x128 .bf16) : FVec Ideal S256x256 .bf16 :=
  concatenate S256x256 0 [⟨S128x256, concatenate S128x256 1 [⟨S128x128, d0⟩, ⟨S128x128, o⟩]
      concatenates_S128x128_S128x128_S128x256_d1⟩,
    ⟨S128x256, concatenate S128x256 1 [⟨S128x128, broadcast S128x128 (Scalar.ofBits .bf16 0x0000#16)⟩, ⟨S128x128, d1⟩]
      concatenates_S128x128_S128x128_S128x256_d1⟩] concatenates_S128x256_S128x256_S256x256_d0

/-- The states of a group of eight heads times the codes of C. -/
def kYoff (v184 : FVec Ideal S256x128 .fp8e4m3) (v509 : FVec Ideal S1x8x64x128 .f32) :
    FVec Ideal S512x256 .f32 :=
  matmul dot_S512x128_S256x128_S512x256_1_1_0_0_n_n none
    (truncf .bf16 (shapeCast S512x128 (shapeCast S8x64x128 v509 shapeCasts_S1x8x64x128_S8x64x128)
      shapeCasts_S8x64x128_S512x128) bitsLt_bf16_f32) (extf .bf16 v184 bitsLt_fp8e4m3_bf16)
    (constant S512x256 .f32 0x00000000#32)

/-- One head's output. -/
def kY (v514 : FVec Ideal S1x1x64x256 .bf16) (v516 : FVec Ideal S1x256 .f32) (w : FVec Ideal S256x256 .bf16)
    (yo : FVec Ideal S64x256 .f32) (v571 : FVec Ideal S1x256 .f32) (d : Ideal .f32) :
    FVec Ideal S1x1x64x256 .bf16 :=
  shapeCast S1x1x64x256 (truncf .bf16 (addf (addf
    (matmul dot_S64x256_S256x256_S64x256_1_0_0_1_n_n none
      (extf .bf16 (kCodesX v514 v516) bitsLt_fp8e4m3_bf16) w (constant S64x256 .f32 0x00000000#32))
    (mulf yo (broadcastTo S64x256 v571 broadcasts_S1x256_S64x256)))
    (mulf (broadcast S64x256 d)
      (extf .f32 (shapeCast S64x256 v514 shapeCasts_S1x1x64x256_S64x256) bitsLt_bf16_f32)))
    bitsLt_bf16_f32) shapeCasts_S64x256_S1x1x64x256

/-- The state updates of a group of eight heads. -/
def kSt (x0 x1 x2 x3 x4 x5 x6 x7 : FVec Ideal S64x256 .bf16) (v174 : FVec Ideal S256x128 .fp8e4m3) :
    FVec Ideal S512x128 .f32 :=
  matmul dot_S512x256_S256x128_S512x128_1_0_0_1_n_n none
    (concatenate S512x256 0 [⟨S64x256, x0⟩, ⟨S64x256, x1⟩, ⟨S64x256, x2⟩, ⟨S64x256, x3⟩, ⟨S64x256, x4⟩,
      ⟨S64x256, x5⟩, ⟨S64x256, x6⟩, ⟨S64x256, x7⟩]
      concatenates_S64x256_S64x256_S64x256_S64x256_S64x256_S64x256_S64x256_S64x256_S512x256_d0)
    (extf .bf16 v174 bitsLt_fp8e4m3_bf16) (constant S512x128 .f32 0x00000000#32)

/-- One head's new state. -/
def kH (st : FVec Ideal S64x128 .f32) (ae : FVec Ideal S1x128 .f32) (h : FVec Ideal S1x1x64x128 .f32) :
    FVec Ideal S1x1x64x128 .f32 :=
  shapeCast S1x1x64x128 (addf (mulf (broadcastTo S64x128 ae broadcasts_S1x128_S64x128)
    (shapeCast S64x128 h shapeCasts_S1x1x64x128_S64x128)) st) shapeCasts_S64x128_S1x1x64x128

end Cert.Ssd
-- ==== Proof.Spec.lean ====
module

public import proofs.«01_k».proof.Proof.Scale

/-!
# One chunk of the scan, as a function of its inputs

The codes, the scales, the decays, the output and the state update of one head over one chunk of 256 positions, on the extended
reals. Both programs are read as these functions. The rest of the module is the arithmetic by which the kernel's form of a
factor equals the form written here.
-/

@[expose] public section

noncomputable section

open Idealize.ShloMosaic

namespace Cert.Ssd

/-- The absolute value. -/
def absE (x : EReal) : EReal := max x (-x)

/-- A code: the value times the reciprocal scale, clipped to the range of the format. -/
def code (x m : EReal) : EReal :=
  min (Ideal.ofBits .f32 0x43E00000#32) (max (Ideal.ofBits .f32 0xC3E00000#32) (x * (isc m : EReal)))

/-- The largest absolute value of one position of a head. -/
def mX (x : Fin 64 → Fin 256 → EReal) (s : Fin 256) : EReal := Finset.univ.sup fun p => absE (x p s)
/-- The scale of one position of a head. -/
def sX (x : Fin 64 → Fin 256 → EReal) (s : Fin 256) : EReal := (scl (mX x s) : EReal)
/-- The codes of a head. -/
def qX (x : Fin 64 → Fin 256 → EReal) (p : Fin 64) (s : Fin 256) : EReal := code (x p s) (mX x s)

/-- The largest absolute value of a chunk of B or C. -/
def mB (b : Fin 256 → Fin 128 → EReal) : EReal := Finset.univ.sup fun s => Finset.univ.sup fun n => absE (b s n)
/-- The scale of a chunk of B or C. -/
def sB (b : Fin 256 → Fin 128 → EReal) : EReal := (scl (mB b) : EReal)
/-- The codes of a chunk of B or C. -/
def qB (b : Fin 256 → Fin 128 → EReal) (s : Fin 256) (n : Fin 128) : EReal := code (b s n) (mB b)

/-- The prefix sums of the logarithms of the decay. -/
def acs (a : EReal) (dt : Fin 256 → EReal) (t : Fin 256) : EReal := ∑ s : Fin 256, if s ≤ t then a * dt s else 0

/-- The step times the scale of the position. -/
def dX (x : Fin 64 → Fin 256 → EReal) (dt : Fin 256 → EReal) (s : Fin 256) : EReal := dt s * sX x s

/-- The decay from position `s` to position `t`. -/
def dec (a : EReal) (dt : Fin 256 → EReal) (t s : Fin 256) : EReal :=
  Ideal.exp (if s ≤ t then acs a dt t - acs a dt s else ⊥)

/-- The scaled product of C at `t` and B at `s`. -/
def cbm (b c : Fin 256 → Fin 128 → EReal) (t s : Fin 256) : EReal :=
  (∑ n, qB c t n * qB b s n) * (sB c * sB b)

/-- The weight of position `s` in the output at `t`. -/
def wt (a : EReal) (x : Fin 64 → Fin 256 → EReal) (dt : Fin 256 → EReal) (b c : Fin 256 → Fin 128 → EReal)
    (t s : Fin 256) : EReal := cbm b c t s * dec a dt t s * dX x dt s

/-- The weight of position `s` in the state. -/
def wst (a : EReal) (x : Fin 64 → Fin 256 → EReal) (dt : Fin 256 → EReal) (s : Fin 256) : EReal :=
  Ideal.exp (acs a dt 255 - acs a dt s) * dt s * sX x s

/-- What the chunk adds to the state. -/
def stU (a : EReal) (x : Fin 64 → Fin 256 → EReal) (dt : Fin 256 → EReal) (b : Fin 256 → Fin 128 → EReal)
    (p : Fin 64) (n : Fin 128) : EReal :=
  (∑ s, (qX x p s * wst a x dt s) * qB b s n) * sB b

/-- The state after the chunk. -/
def hNew (a : EReal) (x : Fin 64 → Fin 256 → EReal) (dt : Fin 256 → EReal) (b : Fin 256 → Fin 128 → EReal)
    (h : Fin 64 → Fin 128 → EReal) (p : Fin 64) (n : Fin 128) : EReal :=
  Ideal.exp (acs a dt 255) * h p n + stU a x dt b p n

/-- The output of the chunk. -/
def yOut (a d : EReal) (x : Fin 64 → Fin 256 → EReal) (dt : Fin 256 → EReal) (b c : Fin 256 → Fin 128 → EReal)
    (h : Fin 64 → Fin 128 → EReal) (p : Fin 64) (t : Fin 256) : EReal :=
  (∑ s, qX x p s * wt a x dt b c t s) + (∑ n, qB c t n * h p n) * sB c * Ideal.exp (acs a dt t) + d * x p t

/-! ## Arithmetic -/

theorem fold_max_bot {n : ℕ} (f : Fin n → EReal) : Finset.fold max ⊥ f Finset.univ = Finset.univ.sup f := rfl

/-- The reciprocal of the logarithm of two. -/
def L2 : EReal := (((Real.log 2)⁻¹ : ℝ) : EReal)

theorem log2_pos : 0 < Real.log 2 := Real.log_pos (by norm_num)

theorem exp2_L (r : ℝ) : Ideal.exp2 (((r * (Real.log 2)⁻¹ : ℝ)) : EReal) = ((Real.exp r : ℝ) : EReal) := by
  rw [Ideal.exp2_coe]
  refine congrArg (fun z : ℝ => (z : EReal)) ?_
  change (2 : ℝ) ^ (r * (Real.log 2)⁻¹) = _
  rw [Real.rpow_def_of_pos (by norm_num)]
  congr 1
  have := log2_pos.ne'
  field_simp

theorem exp2_mul (r : ℝ) : Ideal.exp2 ((r : EReal) * L2) = Ideal.exp (r : EReal) := by
  rw [L2, ← EReal.coe_mul, exp2_L, Ideal.exp_coe]

theorem exp2_sub (r s : ℝ) : Ideal.exp2 ((r : EReal) * L2 - (s : EReal) * L2) = Ideal.exp ((r : EReal) - (s : EReal)) := by
  rw [L2, ← EReal.coe_mul, ← EReal.coe_mul, ← EReal.coe_sub, ← sub_mul, exp2_L, ← EReal.coe_sub, Ideal.exp_coe]

/-- The step as a power of two. -/
theorem exp2_log (r s d : ℝ) (hd : 0 ≤ d) :
    Ideal.exp2 ((r : EReal) * L2 - ((s : EReal) * L2 - Ideal.log (d : EReal) * L2))
      = Ideal.exp ((r : EReal) - (s : EReal)) * (d : EReal) := by
  rcases hd.eq_or_lt with rfl | hd
  · have hl : Ideal.log ((0 : ℝ) : EReal) = ⊥ := by rw [Ideal.log_coe, if_pos le_rfl]
    have hL : (⊥ : EReal) * L2 = ⊥ := EReal.bot_mul_coe_of_pos (inv_pos.2 log2_pos)
    rw [hl, hL]
    have h1 : ((s : EReal) * L2 - ⊥) = ⊤ := by
      rw [L2, ← EReal.coe_mul]; rfl
    rw [h1, L2, ← EReal.coe_mul]
    have h2 : (((r * (Real.log 2)⁻¹ : ℝ)) : EReal) - ⊤ = ⊥ := rfl
    rw [h2]
    simp
  · have hl : Ideal.log ((d : ℝ) : EReal) = ((Real.log d : ℝ) : EReal) := by
      rw [Ideal.log_coe, if_neg (not_le.2 hd)]
    rw [hl, L2, ← EReal.coe_mul, ← EReal.coe_mul, ← EReal.coe_mul, ← EReal.coe_sub, ← EReal.coe_sub]
    have : r * (Real.log 2)⁻¹ - (s * (Real.log 2)⁻¹ - Real.log d * (Real.log 2)⁻¹) = ((r - s) + Real.log d) * (Real.log 2)⁻¹ := by ring
    rw [this, exp2_L, Real.exp_add, Real.exp_log hd, EReal.coe_mul, ← EReal.coe_sub, Ideal.exp_coe]

theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (by exact_mod_cast hr) (EReal.coe_ne_top _) _ _

/-! ## The inputs that are assumed finite -/

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The prefix sums of real products are real. -/
theorem acs_real (a : ℝ) (dt : Fin 256 → ℝ) (t : Fin 256) :
    acs (a : EReal) (fun s => (dt s : EReal)) t = ((∑ s : Fin 256, if s ≤ t then a * dt s else 0 : ℝ) : EReal) := by
  unfold acs
  rw [coe_sum]
  refine Finset.sum_congr rfl fun s _ => ?_
  split <;> simp [EReal.coe_mul]

/-- What is assumed of a head's decay rate and steps. -/
structure Ok (a : EReal) (dt : Fin 256 → EReal) : Prop where
  a_real : ∃ r : ℝ, a = r
  dt_real : ∀ s, ∃ r : ℝ, 0 ≤ r ∧ dt s = r

theorem Ok.acs {a : EReal} {dt : Fin 256 → EReal} (h : Ok a dt) (t : Fin 256) : ∃ r : ℝ, acs a dt t = r := by
  obtain ⟨r, rfl⟩ := h.a_real
  choose d hd using h.dt_real
  obtain rfl : dt = fun s => (d s : EReal) := funext fun s => (hd s).2
  exact ⟨_, acs_real r d t⟩

theorem Ok.mul_real {a : EReal} {dt : Fin 256 → EReal} (h : Ok a dt) (s : Fin 256) : ∃ r : ℝ, a * dt s = r := by
  obtain ⟨r, rfl⟩ := h.a_real
  obtain ⟨d, _, hd⟩ := h.dt_real s
  exact ⟨r * d, by rw [hd, EReal.coe_mul]⟩

theorem Ok.dX {a : EReal} {dt : Fin 256 → EReal} (h : Ok a dt) (x : Fin 64 → Fin 256 → EReal) (s : Fin 256) :
    ∃ r : ℝ, 0 ≤ r ∧ dX x dt s = r := by
  obtain ⟨d, h0, hd⟩ := h.dt_real s
  exact ⟨d * scl (mX x s), mul_nonneg h0 (scl_pos _).le, by rw [Ssd.dX, sX, hd, EReal.coe_mul]⟩

/-- The kernel's weight is the weight. -/
theorem wt_eq {a : EReal} {dt : Fin 256 → EReal} (h : Ok a dt) (x : Fin 64 → Fin 256 → EReal)
    (b c : Fin 256 → Fin 128 → EReal) (t s : Fin 256) :
    Ideal.exp2 (if s ≤ t then acs a dt t * L2 - (acs a dt s * L2 - Ideal.log (dX x dt s) * L2) else ⊥)
      * ((∑ n, qB b s n * qB c t n) * (sB c * sB b)) = wt a x dt b c t s := by
  have hc : (∑ n, qB b s n * qB c t n) = ∑ n, qB c t n * qB b s n := Finset.sum_congr rfl fun n _ => mul_comm _ _
  rw [hc, wt, dec]
  change _ * cbm b c t s = _
  split
  · obtain ⟨u, hu⟩ := h.acs t
    obtain ⟨v, hv⟩ := h.acs s
    obtain ⟨d, h0, hd⟩ := h.dX x s
    rw [hu, hv, hd, exp2_log _ _ _ h0, mul_comm (cbm b c t s), mul_assoc, mul_assoc, mul_comm (d : EReal)]
  · simp

/-- The kernel's state weight is the state weight times the scale of B. -/
theorem wst_eq {a : EReal} {dt : Fin 256 → EReal} (h : Ok a dt) (x : Fin 64 → Fin 256 → EReal) (b : Fin 256 → Fin 128 → EReal)
    (s : Fin 256) :
    Ideal.exp2 (acs a dt 255 * L2 - acs a dt s * L2) * dX x dt s * sB b = wst a x dt s * sB b := by
  obtain ⟨u, hu⟩ := h.acs 255
  obtain ⟨v, hv⟩ := h.acs s
  rw [wst, hu, hv, exp2_sub, dX, ← mul_assoc]

theorem stU_eq (a : EReal) (dt : Fin 256 → EReal) (x : Fin 64 → Fin 256 → EReal) (b : Fin 256 → Fin 128 → EReal)
    (p : Fin 64) (n : Fin 128) :
    ∑ s, (qX x p s * (wst a x dt s * sB b)) * qB b s n = stU a x dt b p n := by
  rw [stU, sB, sum_mul_coe _ _ _ (scl_pos _).le]
  refine Finset.sum_congr rfl fun s _ => ?_
  rw [← mul_assoc, mul_assoc _ _ (qB b s n), mul_comm _ (qB b s n), ← mul_assoc]

theorem exp2_acs {a : EReal} {dt : Fin 256 → EReal} (h : Ok a dt) (t : Fin 256) :
    Ideal.exp2 (acs a dt t * L2) = Ideal.exp (acs a dt t) := by
  obtain ⟨u, hu⟩ := h.acs t
  rw [hu, exp2_mul]

end Cert.Ssd
-- ==== Proof.KernAt.lean ====
module

public import Idealize.ShloMosaic.Lib.WordCmp
public import proofs.«01_k».proof.Proof.Kern
public import proofs.«01_k».proof.Proof.Spec

/-!
What each vector expression of the kernel's body is at an index, given what the vectors it reads are there.
-/

@[expose] public section

set_option maxRecDepth 16384

noncomputable section

open Idealize.ShloMosaic Idealize.ShloMosaic.TcCoe Idealize.SL.Sem
open Cert.KernelIdeal Cert.KernelIdeal.Gen
open Idealize.ShloMosaic.WordCmp

namespace Cert.Ssd

/-- One head of a block of `x`. -/
def xh (x : FVec Ideal S1x80x64x256 .bf16) (h : Fin 80) : Fin 64 → Fin 256 → EReal := fun p s => x (ix4 0 h p s)
/-- One head of a block of steps. -/
def dth (x : FVec Ideal S1x80x256 .f32) (h : Fin 80) : Fin 256 → EReal := fun s => x (ix3 0 h s)
/-- A block of B or C. -/
def bh (x : FVec Ideal S1x256x128 .bf16) : Fin 256 → Fin 128 → EReal := fun s n => x (ix3 0 s n)
/-- One head of a block of states. -/
def hh (x : FVec Ideal S1x80x64x128 .f32) (h : Fin 80) : Fin 64 → Fin 128 → EReal := fun p n => x (ix4 0 h p n)

theorem ofBits_ninf32 : Ideal.ofBits .f32 0xFF800000#32 = ⊥ := by simp [Ideal.ofBits, Ideal.ieee]
theorem ofBits_ninf16 : Ideal.ofBits .bf16 0xFF80#16 = ⊥ := by simp [Ideal.ofBits, Ideal.ieee]

theorem absf_eq {φ : FTy} (x : Ideal φ) : (FloatOps.absf x : EReal) = absE x := rfl

theorem kL_eq : kL = L2 :=
  IdealRules.named_const.ideal_named_scalar _ _ _ _ rfl

/-! ## Largest absolute values, scales and codes -/

theorem kMaxCol_at (x : FVec Ideal S1x256x128 .bf16) (n : Fin 128) :
    kMaxCol x (ix2 0 n) = Finset.univ.sup fun s : Fin 256 => absE (bh x s n) := by
  have h : kMaxCol x (ix2 0 n) = Finset.fold max (Ideal.ofBits FTy.bf16 0xFF80#16)
      (fun s : Fin 256 => absE (bh x s n)) Finset.univ := by
    pointwise [kMaxCol]
    exact Finset.fold_congr fun s _ => rfl
  rw [h, ofBits_ninf16, fold_max_bot]

theorem kMaxRow_at (v : FVec Ideal S1x128 .f32) (f : Fin 128 → EReal) (hv : ∀ n, v (ix2 0 n) = f n) :
    kMaxRow v (ix2 0 0) = Finset.univ.sup f := by
  have h : kMaxRow v (ix2 0 0) = Finset.fold max (Ideal.ofBits FTy.f32 0xFF800000#32)
      (fun n : Fin 128 => v (ix2 0 n)) Finset.univ := by
    pointwise [kMaxRow]
  rw [h, ofBits_ninf32, fold_max_bot]
  exact Finset.sup_congr rfl fun n _ => hv n

theorem kAmaxB_at (x : FVec Ideal S1x256x128 .bf16) : kAmaxB x (ix2 0 0) = mB (bh x) * (c448 : ℝ) := by
  have e : ∀ v : FVec Ideal S1x1 .f32, mulf v (broadcast S1x1 (Scalar.ofBits .f32 0x3B124925#32)) (ix2 0 0)
      = (v (ix2 0 0) : EReal) * Ideal.ofBits FTy.f32 0x3B124925#32 := fun v => rfl
  have e2 : ∀ (v : FVec Ideal S1x128 .bf16) (n : Fin 128), extf .f32 v bitsLt_bf16_f32 (ix2 0 n) = (v (ix2 0 n) : EReal) :=
    fun v n => rfl
  have hv : ∀ n, extf .f32 (kMaxCol x) bitsLt_bf16_f32 (ix2 0 n)
      = Finset.univ.sup fun s : Fin 256 => absE (bh x s n) := fun n =>
    (e2 _ n).trans (kMaxCol_at x n)
  unfold kAmaxB
  rw [e, kMaxRow_at _ _ hv, ofBits_c448, mB]
  refine congrArg (· * ((c448 : ℝ) : EReal)) ?_
  exact Finset.sup_comm _ _ _

theorem kAmaxX_at (x : FVec Ideal S1x1x64x256 .bf16) (f : Fin 64 → Fin 256 → EReal)
    (hx : ∀ p s, x (ix4 0 0 p s) = f p s) (s : Fin 256) : kAmaxX x (ix2 0 s) = mX f s := by
  have h : kAmaxX x (ix2 0 s) = Finset.fold max (Ideal.ofBits FTy.bf16 0xFF80#16)
      (fun p : Fin 64 => absE (x (ix4 0 0 p s))) Finset.univ := by
    pointwise [kAmaxX]
    exact Finset.fold_congr fun s _ => rfl
  rw [h, ofBits_ninf16, fold_max_bot, mX]
  exact Finset.sup_congr rfl fun p _ => by rw [hx]

/-- A largest absolute value far enough from the largest number. -/
structure Small (m : EReal) : Prop where
  lt : m.toReal * c448 < 2 ^ (120 : ℤ)
  ne : m ≠ ⊤

theorem absE_nonneg (x : EReal) : 0 ≤ absE x := by
  unfold absE
  rcases le_total 0 x with h | h
  · exact le_max_of_le_left h
  · exact le_max_of_le_right (EReal.neg_nonneg.2 h)

theorem mX_nonneg (x : Fin 64 → Fin 256 → EReal) (s : Fin 256) : 0 ≤ mX x s :=
  (absE_nonneg _).trans (Finset.le_sup (f := fun p => absE (x p s)) (Finset.mem_univ 0))

theorem mB_nonneg (b : Fin 256 → Fin 128 → EReal) : 0 ≤ mB b :=
  ((absE_nonneg _).trans (Finset.le_sup (f := fun n => absE (b 0 n)) (Finset.mem_univ 0))).trans
    (Finset.le_sup (f := fun s => Finset.univ.sup fun n => absE (b s n)) (Finset.mem_univ 0))

theorem kscl_B {b : Fin 256 → Fin 128 → EReal} (h : Small (mB b)) : kscl (mB b * (c448 : ℝ)) = sB b :=
  kscl_eq _ (mB_nonneg b) h.lt h.ne
theorem kisc_B {b : Fin 256 → Fin 128 → EReal} (h : Small (mB b)) : kisc (mB b * (c448 : ℝ)) = (isc (mB b) : EReal) :=
  kisc_eq _ (mB_nonneg b) h.lt h.ne
theorem kscl_X {x : Fin 64 → Fin 256 → EReal} {s : Fin 256} (h : Small (mX x s)) : kscl (mX x s * (c448 : ℝ)) = sX x s :=
  kscl_eq _ (mX_nonneg x s) h.lt h.ne
theorem kisc_X {x : Fin 64 → Fin 256 → EReal} {s : Fin 256} (h : Small (mX x s)) :
    kisc (mX x s * (c448 : ℝ)) = (isc (mX x s) : EReal) :=
  kisc_eq _ (mX_nonneg x s) h.lt h.ne

theorem kCodesB_at {v4 : FVec Ideal S256x128 .bf16} {v85 : FVec Ideal S1x1 .f32} {b : Fin 256 → Fin 128 → EReal}
    (h4 : ∀ s n, v4 (ix2 s n) = b s n) (h85 : v85 (ix2 0 0) = (isc (mB b) : EReal)) (s : Fin 256) (n : Fin 128) :
    kCodesB v4 v85 (ix2 s n) = qB b s n := by
  pointwise [kCodesB]
  rw [h4, h85]
  rfl

theorem kCb_at {v80 v159 : FVec Ideal S1x1 .f32} {v174 v184 : FVec Ideal S256x128 .fp8e4m3}
    {b c : Fin 256 → Fin 128 → EReal} (hb : ∀ s n, v174 (ix2 s n) = qB b s n) (hc : ∀ s n, v184 (ix2 s n) = qB c s n)
    (hsb : v80 (ix2 0 0) = sB b) (hsc : v159 (ix2 0 0) = sB c) (s t : Fin 256) :
    kCb v80 v159 v174 v184 (ix2 s t) = (∑ n, qB b s n * qB c t n) * (sB c * sB b) := by
  pointwise [kCb]
  rw [hsb, hsc]
  simp only [hb, hc]

theorem kCodesX_at {v514 : FVec Ideal S1x1x64x256 .bf16} {v516 : FVec Ideal S1x256 .f32} {x : Fin 64 → Fin 256 → EReal}
    (hx : ∀ p s, v514 (ix4 0 0 p s) = x p s) (hi : ∀ s, v516 (ix2 0 s) = (isc (mX x s) : EReal)) (p : Fin 64) (s : Fin 256) :
    kCodesX v514 v516 (ix2 p s) = qX x p s := by
  pointwise [kCodesX]
  rw [hx, hi]
  rfl

theorem kXc_at {v514 : FVec Ideal S1x1x64x256 .bf16} {v516 : FVec Ideal S1x256 .f32} {x : Fin 64 → Fin 256 → EReal}
    (hx : ∀ p s, v514 (ix4 0 0 p s) = x p s) (hi : ∀ s, v516 (ix2 0 s) = (isc (mX x s) : EReal)) (p : Fin 64) (s : Fin 256) :
    kXc v514 v516 (ix4 0 0 p s) = qX x p s := by
  pointwise [kXc]
  exact kCodesX_at hx hi p s

theorem kXw_at {v514 : FVec Ideal S1x1x64x256 .bf16} {v516 v531 : FVec Ideal S1x256 .f32} {x : Fin 64 → Fin 256 → EReal}
    {w : Fin 256 → EReal} (hx : ∀ p s, v514 (ix4 0 0 p s) = x p s) (hi : ∀ s, v516 (ix2 0 s) = (isc (mX x s) : EReal))
    (hw : ∀ s, v531 (ix2 0 s) = w s) (p : Fin 64) (s : Fin 256) :
    kXw v514 v516 v531 (ix2 p s) = qX x p s * w s := by
  pointwise [kXw]
  rw [hw, kCodesX_at hx hi]

theorem kLane_at (c : ℕ) (hc : c < 10) (v80 : FVec Ideal S1x1 .f32) (v194 : FVec Ideal S1x1x10 .f32) (k : Fin 10) :
    kLane (BitVec.ofNat 32 c) v80 v194 (ix3 0 0 k) = if k.val = c then v80 (ix2 0 0) else v194 (ix3 0 0 k) := by
  pointwise [kLane]
  rw [cmpi_eq_ofNat (by have := k.isLt; omega) (by omega), select_ofBool]
  simp

/-! ## The prefix sums and what is made of them -/

theorem up_at (s t : Fin 256) :
    (FloatOps.sitofp FTy.f32 (BitVec.setWidth 32 (IntOp.cmpi CmpIPredicate.sle (BitVec.ofNat 32 ↑s) (BitVec.ofNat 32 ↑t))) : Ideal .f32)
      = (if s ≤ t then (1 : EReal) else 0) := by
  rw [cmpi_sle_ofNat (by have := s.isLt; omega) (by have := t.isLt; omega)]
  by_cases h : s ≤ t
  · have h' : s.val ≤ t.val := h
    simp only [h, h', decide_true, decide_false, if_true, if_false]
    change (((BitVec.setWidth 32 (BitVec.ofBool _)).toInt : ℝ) : EReal) = _
    simp
  · have h' : ¬ s.val ≤ t.val := h
    simp only [h, h', decide_true, decide_false, if_true, if_false]
    change (((BitVec.setWidth 32 (BitVec.ofBool _)).toInt : ℝ) : EReal) = _
    simp

theorem kMm_at (u : FVec Ideal S80x256 .bf16) (h : Fin 80) (f : Fin 256 → EReal) (hu : ∀ s, u (ix2 h s) = f s) (t : Fin 256) :
    kMm u (ix2 h t) = ∑ s : Fin 256, if s ≤ t then f s else 0 := by
  have e : kMm u (ix2 h t) = ∑ s : Fin 256, u (ix2 h s) * (if s ≤ t then (1 : EReal) else 0) := by
    pointwise [kMm, kUp]
    simp only [up_at]
  rw [e]
  refine Finset.sum_congr rfl fun s _ => ?_
  rw [hu]
  split <;> simp

theorem kRest_at (w : FVec Ideal S80x256 .f32) (h : Fin 80) (s : Fin 256) (hw : ∃ r : ℝ, w (ix2 h s) = (r : EReal)) :
    kRest w (ix2 h s) = (0 : EReal) := by
  obtain ⟨r, hr⟩ := hw
  have e : kRest w (ix2 h s) = (w (ix2 h s) : EReal) - (w (ix2 h s) : EReal) := rfl
  rw [e, hr, ← EReal.coe_sub, sub_self, EReal.coe_zero]

theorem kA2_at {w : FVec Ideal S80x256 .f32} {a : EReal} {dt : Fin 256 → EReal} (hok : Ok a dt) (h : Fin 80)
    (hw : ∀ s, w (ix2 h s) = a * dt s) (t : Fin 256) : kA2 w (ix2 h t) = acs a dt t * L2 := by
  have h1 : ∀ s, kRest w (ix2 h s) = (0 : EReal) := fun s => kRest_at w h s (by rw [hw]; exact hok.mul_real s)
  have h2 : ∀ s, kRest (kRest w) (ix2 h s) = (0 : EReal) := fun s => kRest_at _ h s ⟨0, by rw [h1]; rfl⟩
  have e : kA2 w (ix2 h t) = ((kMm (truncf .bf16 w bitsLt_bf16_f32) (ix2 h t) : EReal)
      + ((kMm (truncf .bf16 (kRest w) bitsLt_bf16_f32) (ix2 h t) : EReal)
        + (kMm (truncf .bf16 (kRest (kRest w)) bitsLt_bf16_f32) (ix2 h t) : EReal))) * (kL : EReal) := rfl
  rw [e, kMm_at (truncf .bf16 w bitsLt_bf16_f32) h _ hw, kMm_at (truncf .bf16 (kRest w) bitsLt_bf16_f32) h _ h1,
    kMm_at (truncf .bf16 (kRest (kRest w)) bitsLt_bf16_f32) h _ h2, kL_eq]
  simp [acs]

theorem kE_at {v159 : FVec Ideal S1x1 .f32} {a2 : FVec Ideal S80x256 .f32} {a : EReal} {dt : Fin 256 → EReal} {c : Fin 256 → Fin 128 → EReal}
    (hok : Ok a dt) (h : Fin 80) (hs : v159 (ix2 0 0) = sB c) (ha : ∀ t, a2 (ix2 h t) = acs a dt t * L2) (t : Fin 256) :
    kE v159 a2 (ix2 h t) = Ideal.exp (acs a dt t) * sB c := by
  have e : kE v159 a2 (ix2 h t) = Ideal.exp2 (a2 (ix2 h t)) * (v159 (ix2 0 0) : EReal) := by
    pointwise [kE]
    rfl
  rw [e, ha, hs, exp2_acs hok]

theorem kWs_at {v80 : FVec Ideal S1x1 .f32} {dx a2 : FVec Ideal S80x256 .f32} {a : EReal} {dt : Fin 256 → EReal}
    {b : Fin 256 → Fin 128 → EReal} {x : Fin 64 → Fin 256 → EReal}
    (hok : Ok a dt) (h : Fin 80) (hs : v80 (ix2 0 0) = sB b) (ha : ∀ t, a2 (ix2 h t) = acs a dt t * L2)
    (hd : ∀ s, dx (ix2 h s) = dX x dt s) (s : Fin 256) :
    kWs v80 dx a2 (ix2 h s) = wst a x dt s * sB b := by
  have e : kWs v80 dx a2 (ix2 h s) = Ideal.exp2 ((a2 (ix2 h 255) : EReal) - a2 (ix2 h s)) * (dx (ix2 h s) : EReal) * (v80 (ix2 0 0) : EReal) := by
    pointwise [kWs]
    rfl
  rw [e, ha, ha, hd, hs, wst_eq hok]

theorem kAe_at {a2 : FVec Ideal S80x256 .f32} {a : EReal} {dt : Fin 256 → EReal}
    (hok : Ok a dt) (h : Fin 80) (ha : ∀ t, a2 (ix2 h t) = acs a dt t * L2) (n : Fin 128) :
    kAe a2 (ix2 h n) = Ideal.exp (acs a dt 255) := by
  have e : kAe a2 (ix2 h n) = Ideal.exp2 (a2 (ix2 h 255) : EReal) := by
    pointwise [kAe]
    rfl
  rw [e, ha, exp2_acs hok]

theorem kBt_at {dx a2 : FVec Ideal S80x256 .f32} {a : EReal} {dt : Fin 256 → EReal} {x : Fin 64 → Fin 256 → EReal}
    (h : Fin 80) (ha : ∀ t, a2 (ix2 h t) = acs a dt t * L2) (hd : ∀ s, dx (ix2 h s) = dX x dt s) (s : Fin 256) :
    kBt dx a2 (ix2 s h) = acs a dt s * L2 - Ideal.log (dX x dt s) * L2 := by
  have e : kBt dx a2 (ix2 s h) = (a2 (ix2 h s) : EReal) - Ideal.log (dx (ix2 h s) : EReal) * (kL : EReal) := by
    pointwise [kBt]
  rw [e, ha, hd, kL_eq]

/-! ## One head's weights -/

theorem kDiag_at (a : FVec Ideal S1x128 .f32) (b : FVec Ideal S128x1 .f32) (cb : FVec Ideal S128x128 .f32) (s t : Fin 128) :
    kDiag a b cb (ix2 s t) = Ideal.exp2 (if s.val ≤ t.val then (a (ix2 0 t) : EReal) - b (ix2 s 0) else ⊥) * (cb (ix2 s t) : EReal) := by
  pointwise [kDiag, kTri]
  rw [cmpi_sle_ofNat (by have := s.isLt; omega) (by have := t.isLt; omega), select_ofBool, ofBits_ninf32]
  simp only [decide_eq_true_eq]
  rfl

theorem kOff_at (a : FVec Ideal S1x128 .f32) (b : FVec Ideal S128x1 .f32) (cb : FVec Ideal S128x128 .f32) (s t : Fin 128) :
    kOff a b cb (ix2 s t) = Ideal.exp2 ((a (ix2 0 t) : EReal) - b (ix2 s 0)) * (cb (ix2 s t) : EReal) := by
  pointwise [kOff]
  rfl

theorem kTiles_idx (d0 o d1 : FVec Ideal S128x128 .bf16) (s t : Fin 256) :
    kTiles d0 o d1 (ix2 s t) =
      (if hs : s.val < 128 then
        if ht : t.val < 128 then (d0 (ix2 ⟨s.val, hs⟩ ⟨t.val, ht⟩) : EReal)
        else o (ix2 ⟨s.val, hs⟩ ⟨t.val - 128, by omega⟩)
      else if ht : t.val < 128 then 0
      else d1 (ix2 ⟨s.val - 128, by omega⟩ ⟨t.val - 128, by omega⟩)) := by
  pointwise [kTiles]

/-- The weights of a head, whichever tile they lie in. -/
theorem kTiles_at (a0 a1 : FVec Ideal S1x128 .f32) (b0 b1 : FVec Ideal S128x1 .f32) (c00 c01 c11 : FVec Ideal S128x128 .f32)
    (A B : Fin 256 → EReal) (C : Fin 256 → Fin 256 → EReal)
    (ha0 : ∀ t : Fin 128, a0 (ix2 0 t) = A ⟨t.val, by omega⟩) (ha1 : ∀ t : Fin 128, a1 (ix2 0 t) = A ⟨128 + t.val, by omega⟩)
    (hb0 : ∀ s : Fin 128, b0 (ix2 s 0) = B ⟨s.val, by omega⟩) (hb1 : ∀ s : Fin 128, b1 (ix2 s 0) = B ⟨128 + s.val, by omega⟩)
    (h00 : ∀ s t : Fin 128, c00 (ix2 s t) = C ⟨s.val, by omega⟩ ⟨t.val, by omega⟩)
    (h01 : ∀ s t : Fin 128, c01 (ix2 s t) = C ⟨s.val, by omega⟩ ⟨128 + t.val, by omega⟩)
    (h11 : ∀ s t : Fin 128, c11 (ix2 s t) = C ⟨128 + s.val, by omega⟩ ⟨128 + t.val, by omega⟩) (s t : Fin 256) :
    kTiles (kDiag a0 b0 c00) (kOff a1 b0 c01) (kDiag a1 b1 c11) (ix2 s t)
      = Ideal.exp2 (if s ≤ t then A t - B s else ⊥) * C s t := by
  rw [kTiles_idx]
  have hle : s ≤ t ↔ s.val ≤ t.val := Iff.rfl
  by_cases hs : s.val < 128
  · rw [dif_pos hs]
    by_cases ht : t.val < 128
    · rw [dif_pos ht, kDiag_at, ha0, hb0, h00]
      rfl
    · have e : (⟨128 + (t.val - 128), by omega⟩ : Fin 256) = t := Fin.ext (by simp only; omega)
      rw [dif_neg ht, kOff_at, ha1, hb0, h01, if_pos (hle.2 (by omega)), e]
  · rw [dif_neg hs]
    have e' : (⟨128 + (s.val - 128), by omega⟩ : Fin 256) = s := Fin.ext (by simp only; omega)
    by_cases ht : t.val < 128
    · rw [dif_pos ht, if_neg (fun h => absurd (hle.1 h) (by omega)), Ideal.exp2_bot, zero_mul]
    · have e : (⟨128 + (t.val - 128), by omega⟩ : Fin 256) = t := Fin.ext (by simp only; omega)
      have hc : (s.val - 128 ≤ t.val - 128) ↔ s ≤ t := by rw [hle]; omega
      rw [dif_neg ht, kDiag_at, ha1, hb1, h11, e, e']
      simp only [hc]

theorem kYoff_at {v184 : FVec Ideal S256x128 .fp8e4m3} {v509 : FVec Ideal S1x8x64x128 .f32} {c : Fin 256 → Fin 128 → EReal}
    {hs : Fin 8 → Fin 64 → Fin 128 → EReal} (hc : ∀ s n, v184 (ix2 s n) = qB c s n)
    (hh : ∀ k p n, v509 (ix4 0 k p n) = hs k p n) (k : Fin 8) (p : Fin 64) (t : Fin 256) :
    kYoff v184 v509 (ix2 ⟨64 * k.val + p.val, by omega⟩ t) = ∑ n, qB c t n * hs k p n := by
  have e : kYoff v184 v509 (ix2 ⟨64 * k.val + p.val, by omega⟩ t) = ∑ n : Fin 128, (v509 (ix4 0 k p n) : EReal) * v184 (ix2 t n) := by
    pointwise [kYoff]
  rw [e]
  refine Finset.sum_congr rfl fun n _ => ?_
  rw [hc, hh, mul_comm]

theorem kY_at {v514 : FVec Ideal S1x1x64x256 .bf16} {v516 v571 : FVec Ideal S1x256 .f32} {w : FVec Ideal S256x256 .bf16}
    {yo : FVec Ideal S64x256 .f32} {d : Ideal .f32} {a : EReal} {dt : Fin 256 → EReal} {b c : Fin 256 → Fin 128 → EReal}
    {x : Fin 64 → Fin 256 → EReal} {h : Fin 64 → Fin 128 → EReal} {D : EReal}
    (hx : ∀ p s, v514 (ix4 0 0 p s) = x p s) (hi : ∀ s, v516 (ix2 0 s) = (isc (mX x s) : EReal))
    (hw : ∀ s t, w (ix2 s t) = wt a x dt b c t s) (hyo : ∀ p t, yo (ix2 p t) = ∑ n, qB c t n * h p n)
    (he : ∀ t, v571 (ix2 0 t) = Ideal.exp (acs a dt t) * sB c) (hd : d = D) (p : Fin 64) (t : Fin 256) :
    kY v514 v516 w yo v571 d (ix4 0 0 p t) = yOut a D x dt b c h p t := by
  have e : kY v514 v516 w yo v571 d (ix4 0 0 p t) = ∑ s : Fin 256, (kCodesX v514 v516 (ix2 p s) : EReal) * w (ix2 s t)
      + (yo (ix2 p t) : EReal) * v571 (ix2 0 t) + (d : EReal) * v514 (ix4 0 0 p t) := by
    pointwise [kY]
  rw [e, hyo, he, hd, hx, yOut, mul_comm (Ideal.exp _), mul_assoc]
  simp only [kCodesX_at hx hi, hw]

theorem kH_at {st : FVec Ideal S64x128 .f32} {ae : FVec Ideal S1x128 .f32} {hp : FVec Ideal S1x1x64x128 .f32}
    {a : EReal} {dt : Fin 256 → EReal} {b : Fin 256 → Fin 128 → EReal} {x : Fin 64 → Fin 256 → EReal} {h : Fin 64 → Fin 128 → EReal}
    (hst : ∀ p n, st (ix2 p n) = stU a x dt b p n) (hae : ∀ n, ae (ix2 0 n) = Ideal.exp (acs a dt 255))
    (hhp : ∀ p n, hp (ix4 0 0 p n) = h p n) (p : Fin 64) (n : Fin 128) :
    kH st ae hp (ix4 0 0 p n) = hNew a x dt b h p n := by
  have e : kH st ae hp (ix4 0 0 p n) = (ae (ix2 0 n) : EReal) * hp (ix4 0 0 p n) + (st (ix2 p n) : EReal) := by
    pointwise [kH]
  rw [e, hst, hae, hhp]
  rfl

/-- Row `64 k + p` of the eight state updates. -/
theorem kSt_at {x0 x1 x2 x3 x4 x5 x6 x7 : FVec Ideal S64x256 .bf16} {v174 : FVec Ideal S256x128 .fp8e4m3}
    {X : Fin 8 → Fin 64 → Fin 256 → EReal} {b : Fin 256 → Fin 128 → EReal}
    (h0 : ∀ p s, x0 (ix2 p s) = X 0 p s) (h1 : ∀ p s, x1 (ix2 p s) = X 1 p s) (h2 : ∀ p s, x2 (ix2 p s) = X 2 p s)
    (h3 : ∀ p s, x3 (ix2 p s) = X 3 p s) (h4 : ∀ p s, x4 (ix2 p s) = X 4 p s) (h5 : ∀ p s, x5 (ix2 p s) = X 5 p s)
    (h6 : ∀ p s, x6 (ix2 p s) = X 6 p s) (h7 : ∀ p s, x7 (ix2 p s) = X 7 p s) (hb : ∀ s n, v174 (ix2 s n) = qB b s n)
    (k : Fin 8) (p : Fin 64) (n : Fin 128) :
    kSt x0 x1 x2 x3 x4 x5 x6 x7 v174 (ix2 ⟨64 * k.val + p.val, by omega⟩ n) = ∑ s : Fin 256, X k p s * qB b s n := by
  pointwise [kSt]
  refine Finset.sum_congr rfl fun s _ => ?_
  rw [hb]
  refine congrArg (· * qB b s n) ?_
  have hp := p.isLt
  have hk := k.isLt
  have e : ∀ (j : ℕ) (hj : j < 8) (q : Fin 64), k.val = j → q.val = p.val → X ⟨j, hj⟩ q s = X k p s :=
    fun j hj q h h' => congrArg₂ (fun a b => X a b s) (Fin.ext h.symm) (Fin.ext h')
  simp only [h0, h1, h2, h3, h4, h5, h6, h7]
  split_ifs
  all_goals first
    | exact e 0 (by omega) _ (by omega) (by simp only; omega)
    | exact e 1 (by omega) _ (by omega) (by simp only; omega)
    | exact e 2 (by omega) _ (by omega) (by simp only; omega)
    | exact e 3 (by omega) _ (by omega) (by simp only; omega)
    | exact e 4 (by omega) _ (by omega) (by simp only; omega)
    | exact e 5 (by omega) _ (by omega) (by simp only; omega)
    | exact e 6 (by omega) _ (by omega) (by simp only; omega)
    | exact e 7 (by omega) _ (by omega) (by simp only; omega)
    | exact absurd rfl ‹_›

/-! ## The search for the exponent, step by step -/

/-- The scale, when the steps of the search are the given vectors. -/
theorem kscl_steps {S : Shape} {r z : S.Idx → EReal} {e0 k0 e1 e2 e3 e4 e5 e6 e7 e8 f : S.Idx → BitVec 32}
    (h0 : e0 = fun _ => 0#32) (hk : k0 = fun _ => 128#32) (h1 : e1 = fun i => rung (r i) (e0 i) (k0 i)) (h2 : e2 = fun i => rung (r i) (e1 i) 64#32) (h3 : e3 = fun i => rung (r i) (e2 i) 32#32)
    (h4 : e4 = fun i => rung (r i) (e3 i) 16#32) (h5 : e5 = fun i => rung (r i) (e4 i) 8#32) (h6 : e6 = fun i => rung (r i) (e5 i) 4#32)
    (h7 : e7 = fun i => rung (r i) (e6 i) 2#32) (h8 : e8 = fun i => rung (r i) (e7 i) 1#32)
    (hf : f = fun i => Scalar.select (IntOp.cmpi .eq (e8 i) 0#32) 126#32 (e8 i))
    (hz : z = fun i => Ideal.ofBits .f32 (IntOp.shli ArithUnit.vector (IntOp.addi (f i) 1#32) 23#32)) (i : S.Idx) : z i = kscl (r i) := by
  subst h0 hk h1 h2 h3 h4 h5 h6 h7 h8 hf hz
  rfl

/-- The reciprocal scale, when the steps of the search are the given vectors. -/
theorem kisc_steps {S : Shape} {r z : S.Idx → EReal} {e0 k0 e1 e2 e3 e4 e5 e6 e7 e8 f : S.Idx → BitVec 32}
    (h0 : e0 = fun _ => 0#32) (hk : k0 = fun _ => 128#32) (h1 : e1 = fun i => rung (r i) (e0 i) (k0 i)) (h2 : e2 = fun i => rung (r i) (e1 i) 64#32) (h3 : e3 = fun i => rung (r i) (e2 i) 32#32)
    (h4 : e4 = fun i => rung (r i) (e3 i) 16#32) (h5 : e5 = fun i => rung (r i) (e4 i) 8#32) (h6 : e6 = fun i => rung (r i) (e5 i) 4#32)
    (h7 : e7 = fun i => rung (r i) (e6 i) 2#32) (h8 : e8 = fun i => rung (r i) (e7 i) 1#32)
    (hf : f = fun i => Scalar.select (IntOp.cmpi .eq (e8 i) 0#32) 126#32 (e8 i))
    (hz : z = fun i => Ideal.ofBits .f32 (IntOp.shli ArithUnit.vector (IntOp.subi 253#32 (f i)) 23#32)) (i : S.Idx) : z i = kisc (r i) := by
  subst h0 hk h1 h2 h3 h4 h5 h6 h7 h8 hf hz
  rfl

end Cert.Ssd
-- ==== Proof.Scan.lean ====
module

public import proofs.«01_k».proof.Proof.KernAt

/-!
The whole scan, as a function of the arrays it is given.
-/

@[expose] public section

noncomputable section

open Idealize.ShloMosaic

namespace Cert.Ssd

/-- The arrays the scan is given. -/
structure Inp where
  x : Fin 4 → Fin 2560 → Fin 80 → Fin 64 → EReal
  dt : Fin 4 → Fin 2560 → Fin 80 → EReal
  a : Fin 80 → EReal
  b : Fin 4 → Fin 2560 → Fin 128 → EReal
  c : Fin 4 → Fin 2560 → Fin 128 → EReal
  d : Fin 80 → EReal

/-- Position `s` of chunk `k`. -/
def pos (k : Fin 10) (s : Fin 256) : Fin 2560 := ⟨256 * k.val + s.val, by omega⟩

/-- The chunk of a position. -/
def chunk (t : Fin 2560) : Fin 10 := ⟨t.val / 256, by omega⟩
/-- Where in its chunk a position is. -/
def off (t : Fin 2560) : Fin 256 := ⟨t.val % 256, by omega⟩

theorem pos_chunk (t : Fin 2560) : pos (chunk t) (off t) = t := Fin.ext (by show 256 * (t.val / 256) + t.val % 256 = t.val; omega)

namespace Inp

variable (I : Inp) (n : Fin 4) (k : Fin 10)

/-- One head's values in a chunk. -/
def xc (h : Fin 80) : Fin 64 → Fin 256 → EReal := fun p s => I.x n (pos k s) h p
/-- One head's steps in a chunk. -/
def dtc (h : Fin 80) : Fin 256 → EReal := fun s => I.dt n (pos k s) h
/-- A chunk of B. -/
def bc : Fin 256 → Fin 128 → EReal := fun s l => I.b n (pos k s) l
/-- A chunk of C. -/
def cc : Fin 256 → Fin 128 → EReal := fun s l => I.c n (pos k s) l

/-- The states before chunk `k`. -/
def st : ℕ → Fin 80 → Fin 64 → Fin 128 → EReal
  | 0 => fun _ _ _ => 0
  | k + 1 => fun h => if hk : k < 10 then hNew (I.a h) (I.xc n ⟨k, hk⟩ h) (I.dtc n ⟨k, hk⟩ h) (I.bc n ⟨k, hk⟩) (st k h) else st k h

theorem st_succ (h : Fin 80) : I.st n (k.val + 1) h = hNew (I.a h) (I.xc n k h) (I.dtc n k h) (I.bc n k) (I.st n k.val h) := by
  exact dif_pos k.isLt

/-- The output. -/
def y (h : Fin 80) (p : Fin 64) (s : Fin 256) : EReal :=
  yOut (I.a h) (I.d h) (I.xc n k h) (I.dtc n k h) (I.bc n k) (I.cc n k) (I.st n k.val h) p s

/-- What is assumed of the arrays. -/
structure Fine : Prop where
  ok : ∀ n k h, Ok (I.a h) (I.dtc n k h)
  x : ∀ n k h s, Small (mX (I.xc n k h) s)
  b : ∀ n k, Small (mB (I.bc n k))
  c : ∀ n k, Small (mB (I.cc n k))

end Inp

end Cert.Ssd
-- ==== Proof.Leaf.lean ====
module

public import Idealize.ShloMosaic.Lib.Pipeline.ValueKit.Basic
public import proofs.«01_k».proof.Proof.KernAt
public import proofs.«01_k».proof.Proof.Gen.KernelIdeal.Skeleton

/-!
What the loads of the body read: a part of a scratch that one store filled as a whole, or a part of an input block.
-/

@[expose] public section

set_option maxRecDepth 16384

noncomputable section

open Idealize.ShloMosaic Idealize.ShloMosaic.TcCoe Idealize.SL.Sem
open Cert.KernelIdeal Cert.KernelIdeal.Gen

namespace Cert.Ssd

/-- A load of a scratch whose newest store filled it as a whole. -/
theorem covWhole {S : Shape} {e : EltTy} {κ : Kind} {sp : Space} (v : View Cert.KernelIdeal.sig κ sp S e) {off : Fin S.rank → ℕ}
    (inb : ∀ a, off a + S.size a ≤ S.size a) (h0 : ∀ a, off a = 0)
    (w : S.Idx → Elt Ideal e) (L : List (View.Piece (Elt Ideal) S e)) (r : LoadRect S) (j : r.shape.Idx) :
    v.readCov ((⟨Rect.unit off S.size inb, w⟩ : View.Piece (Elt Ideal) S e) :: L) r j = w (r.idx j) := by
  rw [View.readCov_eq_canon']
  exact congrFun (View.canon_cons_unit_lit inb w L h0) _

/-- The index of a part of a matrix. -/
theorem idx2 {m n m' n' : ℕ} (k l : ℕ) (inb : ∀ a, (![k, l] : Fin 2 → ℕ) a + (⟨2, ![m', n']⟩ : Shape).size a ≤ (⟨2, ![m, n]⟩ : Shape).size a)
    (i : Fin m') (j : Fin n') (hi : k + i.val < m) (hj : l + j.val < n) :
    (Rect.unit (s := (⟨2, ![m, n]⟩ : Shape)) ![k, l] (⟨2, ![m', n']⟩ : Shape).size inb).toLoadRect.idx (ix2 i j)
      = (ix2 ⟨k + i.val, hi⟩ ⟨l + j.val, hj⟩ : (⟨2, ![m, n]⟩ : Shape).Idx) := by
  funext a
  apply Fin.ext
  fin_cases a
  · show k + 1 * i.val = k + i.val; omega
  · show l + 1 * j.val = l + j.val; omega

theorem off2 : ∀ a, (![0, 0] : Fin 2 → ℕ) a = 0 := by decide

/-- A part of a matrix that one store filled. -/
theorem cov2 {m n m' n' : ℕ} {e : EltTy} {κ : Kind} {sp : Space} (v : View Cert.KernelIdeal.sig κ sp (⟨2, ![m, n]⟩ : Shape) e)
    (inb : ∀ a, (![0, 0] : Fin 2 → ℕ) a + (⟨2, ![m, n]⟩ : Shape).size a ≤ (⟨2, ![m, n]⟩ : Shape).size a)
    (w : (⟨2, ![m, n]⟩ : Shape).Idx → Elt Ideal e) (L : List (View.Piece (Elt Ideal) (⟨2, ![m, n]⟩ : Shape) e)) (k l : ℕ)
    (inb' : ∀ a, (![k, l] : Fin 2 → ℕ) a + (⟨2, ![m', n']⟩ : Shape).size a ≤ (⟨2, ![m, n]⟩ : Shape).size a)
    (i : Fin m') (j : Fin n') (hi : k + i.val < m) (hj : l + j.val < n) :
    v.readCov ((⟨Rect.unit (s := (⟨2, ![m, n]⟩ : Shape)) ![0, 0] (⟨2, ![m, n]⟩ : Shape).size inb, w⟩ : View.Piece (Elt Ideal) _ e) :: L)
      (Rect.unit (s := (⟨2, ![m, n]⟩ : Shape)) ![k, l] (⟨2, ![m', n']⟩ : Shape).size inb').toLoadRect (ix2 i j)
      = w (ix2 ⟨k + i.val, hi⟩ ⟨l + j.val, hj⟩) :=
  (covWhole v inb off2 w L _ _).trans (congrArg w (idx2 k l inb' i j hi hj))

/-- One head of a block of four axes. -/
theorem ld4 {H P N : ℕ} {e : EltTy} {κ : Kind} {sp : Space} {m : Memref Cert.KernelIdeal.sig κ sp (⟨4, ![1, H, P, N]⟩ : Shape) e} (hm : m.IsWhole)
    (x : (⟨4, ![1, H, P, N]⟩ : Shape).Idx → Elt Ideal e) (k K : ℕ)
    (inb : ∀ a, (![0, k, 0, 0] : Fin 4 → ℕ) a + (⟨4, ![1, K, P, N]⟩ : Shape).size a ≤ (⟨4, ![1, H, P, N]⟩ : Shape).size a)
    (i : Fin K) (hk : k + i.val < H) (p : Fin P) (n : Fin N) :
    View.readAt (Elt Ideal) m.view (Rect.unit (s := (⟨4, ![1, H, P, N]⟩ : Shape)) ![0, k, 0, 0] (⟨4, ![1, K, P, N]⟩ : Shape).size inb).toLoadRect
      (hm.unread x) (ix4 0 i p n) = x (ix4 0 ⟨k + i.val, hk⟩ p n) := by
  rw [View.readAt_apply, hm.read_unread]
  refine congrArg x ?_
  funext a
  apply Fin.ext
  fin_cases a
  · rfl
  · show k + 1 * i.val = k + i.val; omega
  · show 0 + 1 * p.val = p.val; omega
  · show 0 + 1 * n.val = n.val; omega

/-- A scalar of the memory of scalars. -/
theorem ld1 {H : ℕ} {e : EltTy} {κ : Kind} {sp : Space} {m : Memref Cert.KernelIdeal.sig κ sp (⟨1, ![H]⟩ : Shape) e} (hm : m.IsWhole)
    (x : (⟨1, ![H]⟩ : Shape).Idx → Elt Ideal e) (k : ℕ) (hk : k < H)
    (inb : ∀ a, (![k] : Fin 1 → ℕ) a + (⟨1, ![1]⟩ : Shape).size a ≤ (⟨1, ![H]⟩ : Shape).size a)
    (hp : (Rect.unit (s := (⟨1, ![H]⟩ : Shape)) ![k] (⟨1, ![1]⟩ : Shape).size inb).toLoadRect.shape.numel > 0) :
    View.readAt (Elt Ideal) m.view (Rect.unit (s := (⟨1, ![H]⟩ : Shape)) ![k] (⟨1, ![1]⟩ : Shape).size inb).toLoadRect
      (hm.unread x) (Shape.Idx.first hp) = x (ix1 ⟨k, hk⟩) := by
  rw [View.readAt_apply, hm.read_unread]
  refine congrArg x ?_
  funext a
  apply Fin.ext
  fin_cases a
  rfl

/-- Rows of a matrix. -/
theorem slice2 {m n m' : ℕ} {α : Type} (x : (⟨2, ![m, n]⟩ : Shape).Idx → α) (o : ℕ)
    (h : Shape.Slices (⟨2, ![m, n]⟩ : Shape) ![o, 0] (⟨2, ![m', n]⟩ : Shape)) (i : Fin m') (j : Fin n) (hi : o + i.val < m) :
    extractStridedSlice (⟨2, ![m', n]⟩ : Shape) ![o, 0] x h (ix2 i j) = x (ix2 ⟨o + i.val, hi⟩ j) := by
  refine congrArg x ?_
  funext a
  apply Fin.ext
  fin_cases a
  · rfl
  · show 0 + j.val = j.val; omega

/-- A load of a whole input block. -/
theorem ldWhole {S : Shape} {e : EltTy} {κ : Kind} {sp : Space} {m : Memref Cert.KernelIdeal.sig κ sp S e} (hm : m.IsWhole)
    (x : S.Idx → Elt Ideal e) {off : Fin S.rank → ℕ} (inb : ∀ a, off a + S.size a ≤ S.size a) (h0 : ∀ a, off a = 0) :
    View.readAt (Elt Ideal) m.view (Rect.unit off S.size inb).toLoadRect (hm.unread x) = x := by
  rw [View.readAt_eq_ld, hm.read_unread]
  exact View.ld_unit_lit inb x h0

theorem off3 : ∀ a, (![0, 0, 0] : Fin 3 → ℕ) a = 0 := by decide
theorem off4 : ∀ a, (![0, 0, 0, 0] : Fin 4 → ℕ) a = 0 := by decide

/-! One more store of one head, in a list of stores each of which holds its part of `G`. -/

theorem consRow {w : S1x256.Idx → Elt Ideal .f32} {off : Fin 2 → ℕ} {inb} {G : S80x256.Idx → Elt Ideal .f32} {L : List (View.Piece (Elt Ideal) S80x256 .f32)}
    (h : ∀ j : S1x256.Idx, w j = G ((Rect.unit (s := S80x256) off S1x256.size inb).emb j)) (hL : ∀ p ∈ L, ∀ x, p.2 x = G (p.1.emb x)) :
    ∀ p ∈ ((⟨Rect.unit (s := S80x256) off S1x256.size inb, w⟩ : View.Piece (Elt Ideal) S80x256 .f32) :: L), ∀ x, p.2 x = G (p.1.emb x) :=
  List.forall_mem_cons.2 ⟨h, hL⟩

theorem consY {w : S1x1x64x256.Idx → Elt Ideal .bf16} {off : Fin 4 → ℕ} {inb} {G : S1x80x64x256.Idx → Elt Ideal .bf16} {L : List (View.Piece (Elt Ideal) S1x80x64x256 .bf16)}
    (h : ∀ j : S1x1x64x256.Idx, w j = G ((Rect.unit (s := S1x80x64x256) off S1x1x64x256.size inb).emb j)) (hL : ∀ p ∈ L, ∀ x, p.2 x = G (p.1.emb x)) :
    ∀ p ∈ ((⟨Rect.unit (s := S1x80x64x256) off S1x1x64x256.size inb, w⟩ : View.Piece (Elt Ideal) S1x80x64x256 .bf16) :: L), ∀ x, p.2 x = G (p.1.emb x) :=
  List.forall_mem_cons.2 ⟨h, hL⟩

theorem consX {w : S1x1x64x256.Idx → Elt Ideal .fp8e4m3} {off : Fin 4 → ℕ} {inb} {G : S1x80x64x256.Idx → Elt Ideal .fp8e4m3} {L : List (View.Piece (Elt Ideal) S1x80x64x256 .fp8e4m3)}
    (h : ∀ j : S1x1x64x256.Idx, w j = G ((Rect.unit (s := S1x80x64x256) off S1x1x64x256.size inb).emb j)) (hL : ∀ p ∈ L, ∀ x, p.2 x = G (p.1.emb x)) :
    ∀ p ∈ ((⟨Rect.unit (s := S1x80x64x256) off S1x1x64x256.size inb, w⟩ : View.Piece (Elt Ideal) S1x80x64x256 .fp8e4m3) :: L), ∀ x, p.2 x = G (p.1.emb x) :=
  List.forall_mem_cons.2 ⟨h, hL⟩

theorem consH {w : S1x1x64x128.Idx → Elt Ideal .f32} {off : Fin 4 → ℕ} {inb} {G : S1x80x64x128.Idx → Elt Ideal .f32} {L : List (View.Piece (Elt Ideal) S1x80x64x128 .f32)}
    (h : ∀ j : S1x1x64x128.Idx, w j = G ((Rect.unit (s := S1x80x64x128) off S1x1x64x128.size inb).emb j)) (hL : ∀ p ∈ L, ∀ x, p.2 x = G (p.1.emb x)) :
    ∀ p ∈ ((⟨Rect.unit (s := S1x80x64x128) off S1x1x64x128.size inb, w⟩ : View.Piece (Elt Ideal) S1x80x64x128 .f32) :: L), ∀ x, p.2 x = G (p.1.emb x) :=
  List.forall_mem_cons.2 ⟨h, hL⟩

theorem consNil {S : Shape} {e : EltTy} {G : S.Idx → Elt Ideal e} : ∀ p ∈ ([] : List (View.Piece (Elt Ideal) S e)), ∀ x, p.2 x = G (p.1.emb x) :=
  fun _ h => absurd h List.not_mem_nil

end Cert.Ssd
-- ==== Proof.Head.lean ====
module

public import proofs.«01_k».proof.Proof.Leaf

/-!
One head of one chunk, for every head at once. What the heads have in common is collected in `Facts`; the lemmas below say what a head's
store of the output, of the codes and of the state holds, the number of the head being a parameter.
-/

@[expose] public section

set_option maxRecDepth 16384

noncomputable section

open Idealize.ShloMosaic Idealize.ShloMosaic.TcCoe Idealize.SL.Sem
open Cert.KernelIdeal Cert.KernelIdeal.Gen

namespace Cert.Ssd

/-- The output block. -/
def yBlk (a d : Fin 80 → EReal) (x : Fin 80 → Fin 64 → Fin 256 → EReal) (dt : Fin 80 → Fin 256 → EReal) (b c : Fin 256 → Fin 128 → EReal)
    (h : Fin 80 → Fin 64 → Fin 128 → EReal) : S1x80x64x256.Idx → EReal :=
  fun j => yOut (a (j 1)) (d (j 1)) (x (j 1)) (dt (j 1)) b c (h (j 1)) (j 2) (j 3)

/-- The block of states. -/
def hBlk (a : Fin 80 → EReal) (x : Fin 80 → Fin 64 → Fin 256 → EReal) (dt : Fin 80 → Fin 256 → EReal) (b : Fin 256 → Fin 128 → EReal)
    (h : Fin 80 → Fin 64 → Fin 128 → EReal) : S1x80x64x128.Idx → EReal :=
  fun j => hNew (a (j 1)) (x (j 1)) (dt (j 1)) b (h (j 1)) (j 2) (j 3)

/-- The largest absolute values of every head. -/
def mxBlk (x : Fin 80 → Fin 64 → Fin 256 → EReal) : S80x256.Idx → EReal := fun j => mX (x (j 0)) (j 1)

/-- The block of codes. -/
def xcBlk (x : Fin 80 → Fin 64 → Fin 256 → EReal) : S1x80x64x256.Idx → EReal := fun j => qX (x (j 1)) (j 2) (j 3)

/-- What the vectors shared by the heads hold. -/
structure Facts (a : Fin 80 → EReal) (x : Fin 80 → Fin 64 → Fin 256 → EReal) (dt : Fin 80 → Fin 256 → EReal) (b c : Fin 256 → Fin 128 → EReal)
    (inv a2 e ws : FVec Ideal S80x256 .f32) (ae : FVec Ideal S80x128 .f32) (bt : FVec Ideal S256x80 .f32) (cb : FVec Ideal S256x256 .f32)
    (qb qc : FVec Ideal S256x128 .fp8e4m3) : Prop where
  ok : ∀ h, Ok (a h) (dt h)
  inv : ∀ h s, inv (ix2 h s) = (isc (mX (x h) s) : EReal)
  a2 : ∀ h t, a2 (ix2 h t) = acs (a h) (dt h) t * L2
  e : ∀ h t, e (ix2 h t) = Ideal.exp (acs (a h) (dt h) t) * sB c
  ws : ∀ h s, ws (ix2 h s) = wst (a h) (x h) (dt h) s * sB b
  ae : ∀ h n, ae (ix2 h n) = Ideal.exp (acs (a h) (dt h) 255)
  bt : ∀ s h, bt (ix2 s h) = acs (a h) (dt h) s * L2 - Ideal.log (dX (x h) (dt h) s) * L2
  cb : ∀ s t, cb (ix2 s t) = (∑ n, qB b s n * qB c t n) * (sB c * sB b)
  qb : ∀ s n, qb (ix2 s n) = qB b s n
  qc : ∀ s n, qc (ix2 s n) = qB c s n

variable {a d : Fin 80 → EReal} {dt : Fin 80 → Fin 256 → EReal} {b c : Fin 256 → Fin 128 → EReal}
  {hp : Fin 80 → Fin 64 → Fin 128 → EReal}
  {inv a2 e ws : FVec Ideal S80x256 .f32} {ae : FVec Ideal S80x128 .f32} {bt : FVec Ideal S256x80 .f32} {cb : FVec Ideal S256x256 .f32}
  {qb qc : FVec Ideal S256x128 .fp8e4m3}
  {x1 : FVec Ideal S80 .f32} {x2 : FVec Ideal S1x80x64x256 .bf16}
  {κ3 κ4 κ17 κ18 κ19 κ20 κ21 κ22 κ23 : Kind} {s3 s4 s17 s18 s19 s20 s21 s22 s23 : Space}
  {arg3 : Memref sig κ3 s3 S80 .f32} {harg3 : arg3.IsWhole} {arg4 : Memref sig κ4 s4 S1x80x64x256 .bf16} {harg4 : arg4.IsWhole}
  {v17 : View sig κ17 s17 S256x256 .f32} {v18 : View sig κ18 s18 S80x256 .f32} {v19 : View sig κ19 s19 S80x256 .f32}
  {v20 : View sig κ20 s20 S80x256 .f32} {v21 : View sig κ21 s21 S80x256 .f32} {v22 : View sig κ22 s22 S80x128 .f32}
  {v23 : View sig κ23 s23 S256x80 .f32}
  {l17 : List (View.Piece (Elt Ideal) S256x256 .f32)} {l18 l19 l20 l21 : List (View.Piece (Elt Ideal) S80x256 .f32)}
  {l22 : List (View.Piece (Elt Ideal) S80x128 .f32)} {l23 : List (View.Piece (Elt Ideal) S256x80 .f32)}

/-- The weight of a position as the tiles hold it. -/
theorem Facts.tiles (F : Facts a (xh x2) dt b c inv a2 e ws ae bt cb qb qc) (k : ℕ) (hk : k < 80) {i0 i0' i1 i2 i3 i4 i5 i6 i7 i8 i9 i10 i11 i12 i13 i14}
    (s t : Fin 256) :
    kTiles
      (kDiag (v19.readCov (⟨Rect.unit (s := S80x256) ![0, 0] S80x256.size i0, a2⟩ :: l19) (Rect.unit (s := S80x256) ![k, 0] S1x128.size i1).toLoadRect)
        (v23.readCov (⟨Rect.unit (s := S256x80) ![0, 0] S256x80.size i2, bt⟩ :: l23) (Rect.unit (s := S256x80) ![0, k] S128x1.size i3).toLoadRect)
        (v17.readCov (⟨Rect.unit (s := S256x256) ![0, 0] S256x256.size i4, cb⟩ :: l17) (Rect.unit (s := S256x256) ![0, 0] S128x128.size i5).toLoadRect))
      (kOff (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i7, bt⟩ :: l23) (Rect.unit (s := S256x80) ![0, k] S128x1.size i8).toLoadRect)
        (v17.readCov (⟨Rect.unit (s := S256x256) ![0, 0] S256x256.size i9, cb⟩ :: l17) (Rect.unit (s := S256x256) ![0, 128] S128x128.size i10).toLoadRect))
      (kDiag (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i11, bt⟩ :: l23) (Rect.unit (s := S256x80) ![128, k] S128x1.size i12).toLoadRect)
        (v17.readCov (⟨Rect.unit (s := S256x256) ![0, 0] S256x256.size i13, cb⟩ :: l17) (Rect.unit (s := S256x256) ![128, 128] S128x128.size i14).toLoadRect))
      (ix2 s t) = wt (a ⟨k, hk⟩) (xh x2 ⟨k, hk⟩) (dt ⟨k, hk⟩) b c t s := by
  have h0 : ∀ (i : Fin 1), (⟨k + i.val, by omega⟩ : Fin 80) = ⟨k, hk⟩ := fun i => Fin.ext (by simp only; omega)
  refine (kTiles_at _ _ _ _ _ _ _ (fun t => acs (a ⟨k, hk⟩) (dt ⟨k, hk⟩) t * L2)
    (fun s => acs (a ⟨k, hk⟩) (dt ⟨k, hk⟩) s * L2 - Ideal.log (dX (xh x2 ⟨k, hk⟩) (dt ⟨k, hk⟩) s) * L2)
    (fun s t => (∑ n, qB b s n * qB c t n) * (sB c * sB b)) ?_ ?_ ?_ ?_ ?_ ?_ ?_ s t).trans ?_
  · intro t
    refine (cov2 v19 _ a2 _ k 0 _ 0 t (by omega) (by omega)).trans ?_
    rw [F.a2, h0]
    simp only [zero_add]
  · intro t
    refine (cov2 v19 _ a2 _ k 128 _ 0 t (by omega) (by omega)).trans ?_
    rw [F.a2, h0]
  · intro s
    refine (cov2 v23 _ bt _ 0 k _ s 0 (by omega) (by omega)).trans ?_
    rw [F.bt, h0]
    simp only [zero_add]
  · intro s
    refine (cov2 v23 _ bt _ 128 k _ s 0 (by omega) (by omega)).trans ?_
    rw [F.bt, h0]
  · intro s t
    refine (cov2 v17 _ cb _ 0 0 _ s t (by omega) (by omega)).trans ?_
    rw [F.cb]
    simp only [zero_add]
  · intro s t
    refine (cov2 v17 _ cb _ 0 128 _ s t (by omega) (by omega)).trans ?_
    rw [F.cb]
    simp only [zero_add]
  · intro s t
    refine (cov2 v17 _ cb _ 128 128 _ s t (by omega) (by omega)).trans ?_
    rw [F.cb]
  · exact wt_eq (F.ok _) _ b c t s

/-- The input of a head. -/
theorem xLoad (k : ℕ) (hk : k < 80) {i0} (p : Fin 64) (s : Fin 256) :
    View.readAt (Elt Ideal) arg4.view (Rect.unit (s := S1x80x64x256) ![0, k, 0, 0] S1x1x64x256.size i0).toLoadRect (harg4.unread x2) (ix4 0 0 p s)
      = xh x2 ⟨k, hk⟩ p s :=
  (ld4 harg4 x2 k 1 i0 0 (by simpa using hk) p s).trans rfl

/-- The reciprocal scales of a head. -/
theorem Facts.invRow (F : Facts a (xh x2) dt b c inv a2 e ws ae bt cb qb qc) (k : ℕ) (hk : k < 80) {i0 i1} (s : Fin 256) :
    v18.readCov (⟨Rect.unit (s := S80x256) ![0, 0] S80x256.size i0, inv⟩ :: l18) (Rect.unit (s := S80x256) ![k, 0] S1x256.size i1).toLoadRect (ix2 0 s)
      = (isc (mX (xh x2 ⟨k, hk⟩) s) : EReal) := by
  refine (cov2 v18 _ inv _ k 0 _ 0 s (by simpa using hk) (by omega)).trans ?_
  rw [F.inv]
  simp only [zero_add]
  rfl

theorem emb4 {H P N : ℕ} (k : ℕ) (inb : ∀ a, (![0, k, 0, 0] : Fin 4 → ℕ) a + (⟨4, ![1, 1, P, N]⟩ : Shape).size a ≤ (⟨4, ![1, H, P, N]⟩ : Shape).size a)
    (hk : k < H) (p : Fin P) (n : Fin N) :
    (Rect.unit (s := (⟨4, ![1, H, P, N]⟩ : Shape)) ![0, k, 0, 0] (⟨4, ![1, 1, P, N]⟩ : Shape).size inb).emb (ix4 0 0 p n)
      = ix4 0 ⟨k, hk⟩ p n := by
  funext a
  apply Fin.ext
  fin_cases a
  · rfl
  · show k + 1 * 0 = k; omega
  · show 0 + 1 * p.val = p.val; omega
  · show 0 + 1 * n.val = n.val; omega

theorem Facts.y (F : Facts a (xh x2) dt b c inv a2 e ws ae bt cb qb qc) {Hg : FVec Ideal S1x8x64x128 .f32} (k g o : ℕ) (hk : k < 80)
    (hg : g + 8 ≤ 80) (ho : g * 64 + o = k * 64) (ho' : o < 512)
    (hH : ∀ (i : Fin 8) p n, Hg (ix4 0 i p n) = hp ⟨g + i.val, by omega⟩ p n) (hd : ∀ h, x1 (ix1 h) = d h)
    {i0 i0' i1 i2 i3 i4 i5 i6 i7 i8 i9 i10 i11 i12 i13 i14 i15 i16 i17 i18 i19 i20 i21 i22 i23} (j : S1x1x64x256.Idx) :
    kY (View.readAt (Elt Ideal) arg4.view (Rect.unit (s := S1x80x64x256) ![0, k, 0, 0] S1x1x64x256.size i15).toLoadRect (harg4.unread x2))
      (v18.readCov (⟨Rect.unit (s := S80x256) ![0, 0] S80x256.size i16, inv⟩ :: l18) (Rect.unit (s := S80x256) ![k, 0] S1x256.size i17).toLoadRect)
     (kTiles
      (kDiag (v19.readCov (⟨Rect.unit (s := S80x256) ![0, 0] S80x256.size i0, a2⟩ :: l19) (Rect.unit (s := S80x256) ![k, 0] S1x128.size i1).toLoadRect)
        (v23.readCov (⟨Rect.unit (s := S256x80) ![0, 0] S256x80.size i2, bt⟩ :: l23) (Rect.unit (s := S256x80) ![0, k] S128x1.size i3).toLoadRect)
        (v17.readCov (⟨Rect.unit (s := S256x256) ![0, 0] S256x256.size i4, cb⟩ :: l17) (Rect.unit (s := S256x256) ![0, 0] S128x128.size i5).toLoadRect))
      (kOff (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i7, bt⟩ :: l23) (Rect.unit (s := S256x80) ![0, k] S128x1.size i8).toLoadRect)
        (v17.readCov (⟨Rect.unit (s := S256x256) ![0, 0] S256x256.size i9, cb⟩ :: l17) (Rect.unit (s := S256x256) ![0, 128] S128x128.size i10).toLoadRect))
      (kDiag (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i11, bt⟩ :: l23) (Rect.unit (s := S256x80) ![128, k] S128x1.size i12).toLoadRect)
        (v17.readCov (⟨Rect.unit (s := S256x256) ![0, 0] S256x256.size i13, cb⟩ :: l17) (Rect.unit (s := S256x256) ![128, 128] S128x128.size i14).toLoadRect)))
     (extractStridedSlice S64x256 ![o, 0] (kYoff qc Hg) i18)
     (v20.readCov (⟨Rect.unit (s := S80x256) ![0, 0] S80x256.size i19, e⟩ :: l20) (Rect.unit (s := S80x256) ![k, 0] S1x256.size i20).toLoadRect)
     (View.readAt (Elt Ideal) arg3.view (Rect.unit (s := S80) ![k] S1.size i21).toLoadRect (harg3.unread x1) (Shape.Idx.first i22)) j
      = yBlk a d (xh x2) dt b c hp ((Rect.unit (s := S1x80x64x256) ![0, k, 0, 0] S1x1x64x256.size i23).emb j) := by
  obtain ⟨p, t, rfl⟩ : ∃ (p : Fin 64) (t : Fin 256), j = ix4 0 0 p t := ⟨j 2, j 3, by
    rw [eq_ix4 j]
    congr 1
    · exact Subsingleton.elim (α := Fin 1) _ _
    · exact Subsingleton.elim (α := Fin 1) _ _⟩
  refine (kY_at (D := d ⟨k, hk⟩) (h := hp ⟨k, hk⟩) (xLoad k hk) (F.invRow k hk) (F.tiles k hk) ?_ ?_ ((ld1 harg3 x1 k hk _ _).trans (hd _)) p t).trans
    (congrArg (yBlk a d (xh x2) dt b c hp) (emb4 k i23 hk p t)).symm
  · intro p t
    have hq : o / 64 < 8 := by omega
    refine (slice2 (kYoff qc Hg) o i18 p t (by omega)).trans ?_
    refine Eq.trans ?_ ((kYoff_at F.qc hH ⟨o / 64, hq⟩ p t).trans ?_)
    · refine congrArg (kYoff qc Hg) (congrArg (fun q => ix2 q t) (Fin.ext ?_))
      show o + p.val = 64 * (o / 64) + p.val
      omega
    · have : (⟨g + o / 64, by omega⟩ : Fin 80) = ⟨k, hk⟩ := Fin.ext (by simp only; omega)
      simp only [this]
  · intro t
    refine (cov2 v20 _ e _ k 0 _ 0 t (by simpa using hk) (by omega)).trans ?_
    rw [F.e]
    simp only [zero_add]
    rfl

/-- The output of a head, the states before the chunk being loaded from their block. -/
theorem Facts.yB (F : Facts a (xh x2) dt b c inv a2 e ws ae bt cb qb qc) (k g o : ℕ) (hk : k < 80)
    (hg : g + 8 ≤ 80) (ho : g * 64 + o = k * 64) (ho' : o < 512)
    {κ9 : Kind} {s9 : Space} {arg9 : Memref sig κ9 s9 S1x80x64x128 .f32} {harg9 : arg9.IsWhole} {xo7 : FVec Ideal S1x80x64x128 .f32} (hd : ∀ h, x1 (ix1 h) = d h)
    {i0 i0' i1 i2 i3 i4 i5 i6 i7 i8 i9 i10 i11 i12 i13 i14 i15 i16 i17 i18 i19 i20 i21 i22 i23 i24} (j : S1x1x64x256.Idx) :
    kY (View.readAt (Elt Ideal) arg4.view (Rect.unit (s := S1x80x64x256) ![0, k, 0, 0] S1x1x64x256.size i15).toLoadRect (harg4.unread x2))
      (v18.readCov (⟨Rect.unit (s := S80x256) ![0, 0] S80x256.size i16, inv⟩ :: l18) (Rect.unit (s := S80x256) ![k, 0] S1x256.size i17).toLoadRect)
     (kTiles
      (kDiag (v19.readCov (⟨Rect.unit (s := S80x256) ![0, 0] S80x256.size i0, a2⟩ :: l19) (Rect.unit (s := S80x256) ![k, 0] S1x128.size i1).toLoadRect)
        (v23.readCov (⟨Rect.unit (s := S256x80) ![0, 0] S256x80.size i2, bt⟩ :: l23) (Rect.unit (s := S256x80) ![0, k] S128x1.size i3).toLoadRect)
        (v17.readCov (⟨Rect.unit (s := S256x256) ![0, 0] S256x256.size i4, cb⟩ :: l17) (Rect.unit (s := S256x256) ![0, 0] S128x128.size i5).toLoadRect))
      (kOff (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i7, bt⟩ :: l23) (Rect.unit (s := S256x80) ![0, k] S128x1.size i8).toLoadRect)
        (v17.readCov (⟨Rect.unit (s := S256x256) ![0, 0] S256x256.size i9, cb⟩ :: l17) (Rect.unit (s := S256x256) ![0, 128] S128x128.size i10).toLoadRect))
      (kDiag (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i11, bt⟩ :: l23) (Rect.unit (s := S256x80) ![128, k] S128x1.size i12).toLoadRect)
        (v17.readCov (⟨Rect.unit (s := S256x256) ![0, 0] S256x256.size i13, cb⟩ :: l17) (Rect.unit (s := S256x256) ![128, 128] S128x128.size i14).toLoadRect)))
     (extractStridedSlice S64x256 ![o, 0] (kYoff qc (View.readAt (Elt Ideal) arg9.view (Rect.unit (s := S1x80x64x128) ![0, g, 0, 0] S1x8x64x128.size i24).toLoadRect (harg9.unread xo7))) i18)
     (v20.readCov (⟨Rect.unit (s := S80x256) ![0, 0] S80x256.size i19, e⟩ :: l20) (Rect.unit (s := S80x256) ![k, 0] S1x256.size i20).toLoadRect)
     (View.readAt (Elt Ideal) arg3.view (Rect.unit (s := S80) ![k] S1.size i21).toLoadRect (harg3.unread x1) (Shape.Idx.first i22)) j
      = yBlk a d (xh x2) dt b c (hh xo7) ((Rect.unit (s := S1x80x64x256) ![0, k, 0, 0] S1x1x64x256.size i23).emb j) :=
  F.y k g o hk hg ho ho' (fun i p n => ld4 harg9 xo7 g 8 i24 i (by omega) p n) hd j

theorem idx4_eta {P N : ℕ} (j : (⟨4, ![1, 1, P, N]⟩ : Shape).Idx) : ∃ (p : Fin P) (t : Fin N), j = ix4 0 0 p t :=
  ⟨j 2, j 3, by
    rw [eq_ix4 j]
    congr 1
    · exact Subsingleton.elim (α := Fin 1) _ _
    · exact Subsingleton.elim (α := Fin 1) _ _⟩

theorem Facts.xc (F : Facts a (xh x2) dt b c inv a2 e ws ae bt cb qb qc) (k : ℕ) (hk : k < 80) {i0 i1 i2 i3} (j : S1x1x64x256.Idx) :
    kXc (View.readAt (Elt Ideal) arg4.view (Rect.unit (s := S1x80x64x256) ![0, k, 0, 0] S1x1x64x256.size i0).toLoadRect (harg4.unread x2))
      (v18.readCov (⟨Rect.unit (s := S80x256) ![0, 0] S80x256.size i1, inv⟩ :: l18) (Rect.unit (s := S80x256) ![k, 0] S1x256.size i2).toLoadRect) j
      = xcBlk (xh x2) ((Rect.unit (s := S1x80x64x256) ![0, k, 0, 0] S1x1x64x256.size i3).emb j) := by
  obtain ⟨p, t, rfl⟩ := idx4_eta j
  exact (kXc_at (xLoad k hk) (F.invRow k hk) p t).trans (congrArg (xcBlk (xh x2)) (emb4 k i3 hk p t)).symm

theorem Facts.xw (F : Facts a (xh x2) dt b c inv a2 e ws ae bt cb qb qc) (k : ℕ) (hk : k < 80) {i0 i1 i2 i3 i4} (p : Fin 64) (s : Fin 256) :
    kXw (View.readAt (Elt Ideal) arg4.view (Rect.unit (s := S1x80x64x256) ![0, k, 0, 0] S1x1x64x256.size i0).toLoadRect (harg4.unread x2))
      (v18.readCov (⟨Rect.unit (s := S80x256) ![0, 0] S80x256.size i1, inv⟩ :: l18) (Rect.unit (s := S80x256) ![k, 0] S1x256.size i2).toLoadRect)
      (v21.readCov (⟨Rect.unit (s := S80x256) ![0, 0] S80x256.size i3, ws⟩ :: l21) (Rect.unit (s := S80x256) ![k, 0] S1x256.size i4).toLoadRect)
      (ix2 p s) = qX (xh x2 ⟨k, hk⟩) p s * (wst (a ⟨k, hk⟩) (xh x2 ⟨k, hk⟩) (dt ⟨k, hk⟩) s * sB b) := by
  refine kXw_at (w := fun s => wst (a ⟨k, hk⟩) (xh x2 ⟨k, hk⟩) (dt ⟨k, hk⟩) s * sB b) (xLoad k hk) (F.invRow k hk) (fun s => ?_) p s
  refine (cov2 v21 _ ws _ k 0 _ 0 s (by simpa using hk) (by omega)).trans ?_
  rw [F.ws]
  simp only [zero_add]
  rfl

theorem Facts.h (F : Facts a (xh x2) dt b c inv a2 e ws ae bt cb qb qc) (k g o : ℕ) (hk : k < 80)
    (hg : g + 8 ≤ 80) (ho : g * 64 + o = k * 64) (ho' : o < 512) {hr : FVec Ideal S1x1x64x128 .f32}
    (hH : ∀ p n, hr (ix4 0 0 p n) = hp ⟨k, hk⟩ p n) {i0 i1 i2 i3 i4 i5 u0 r0 u1 r1 u2 r2 u3 r3 u4 r4 u5 r5 u6 r6 u7 r7} (j : S1x1x64x128.Idx) :
    kH (extractStridedSlice S64x128 ![o, 0] (kSt
        (kXw (View.readAt (Elt Ideal) arg4.view (Rect.unit (s := S1x80x64x256) ![0, g, 0, 0] S1x1x64x256.size u0).toLoadRect (harg4.unread x2))
          (v18.readCov (⟨Rect.unit (s := S80x256) ![0, 0] S80x256.size i0, inv⟩ :: l18) (Rect.unit (s := S80x256) ![g, 0] S1x256.size r0).toLoadRect)
          (v21.readCov (⟨Rect.unit (s := S80x256) ![0, 0] S80x256.size i1, ws⟩ :: l21) (Rect.unit (s := S80x256) ![g, 0] S1x256.size r0).toLoadRect))
        (kXw (View.readAt (Elt Ideal) arg4.view (Rect.unit (s := S1x80x64x256) ![0, g + 1, 0, 0] S1x1x64x256.size u1).toLoadRect (harg4.unread x2))
          (v18.readCov (⟨Rect.unit (s := S80x256) ![0, 0] S80x256.size i0, inv⟩ :: l18) (Rect.unit (s := S80x256) ![g + 1, 0] S1x256.size r1).toLoadRect)
          (v21.readCov (⟨Rect.unit (s := S80x256) ![0, 0] S80x256.size i1, ws⟩ :: l21) (Rect.unit (s := S80x256) ![g + 1, 0] S1x256.size r1).toLoadRect))
        (kXw (View.readAt (Elt Ideal) arg4.view (Rect.unit (s := S1x80x64x256) ![0, g + 2, 0, 0] S1x1x64x256.size u2).toLoadRect (harg4.unread x2))
          (v18.readCov (⟨Rect.unit (s := S80x256) ![0, 0] S80x256.size i0, inv⟩ :: l18) (Rect.unit (s := S80x256) ![g + 2, 0] S1x256.size r2).toLoadRect)
          (v21.readCov (⟨Rect.unit (s := S80x256) ![0, 0] S80x256.size i1, ws⟩ :: l21) (Rect.unit (s := S80x256) ![g + 2, 0] S1x256.size r2).toLoadRect))
        (kXw (View.readAt (Elt Ideal) arg4.view (Rect.unit (s := S1x80x64x256) ![0, g + 3, 0, 0] S1x1x64x256.size u3).toLoadRect (harg4.unread x2))
          (v18.readCov (⟨Rect.unit (s := S80x256) ![0, 0] S80x256.size i0, inv⟩ :: l18) (Rect.unit (s := S80x256) ![g + 3, 0] S1x256.size r3).toLoadRect)
          (v21.readCov (⟨Rect.unit (s := S80x256) ![0, 0] S80x256.size i1, ws⟩ :: l21) (Rect.unit (s := S80x256) ![g + 3, 0] S1x256.size r3).toLoadRect))
        (kXw (View.readAt (Elt Ideal) arg4.view (Rect.unit (s := S1x80x64x256) ![0, g + 4, 0, 0] S1x1x64x256.size u4).toLoadRect (harg4.unread x2))
          (v18.readCov (⟨Rect.unit (s := S80x256) ![0, 0] S80x256.size i0, inv⟩ :: l18) (Rect.unit (s := S80x256) ![g + 4, 0] S1x256.size r4).toLoadRect)
          (v21.readCov (⟨Rect.unit (s := S80x256) ![0, 0] S80x256.size i1, ws⟩ :: l21) (Rect.unit (s := S80x256) ![g + 4, 0] S1x256.size r4).toLoadRect))
        (kXw (View.readAt (Elt Ideal) arg4.view (Rect.unit (s := S1x80x64x256) ![0, g + 5, 0, 0] S1x1x64x256.size u5).toLoadRect (harg4.unread x2))
          (v18.readCov (⟨Rect.unit (s := S80x256) ![0, 0] S80x256.size i0, inv⟩ :: l18) (Rect.unit (s := S80x256) ![g + 5, 0] S1x256.size r5).toLoadRect)
          (v21.readCov (⟨Rect.unit (s := S80x256) ![0, 0] S80x256.size i1, ws⟩ :: l21) (Rect.unit (s := S80x256) ![g + 5, 0] S1x256.size r5).toLoadRect))
        (kXw (View.readAt (Elt Ideal) arg4.view (Rect.unit (s := S1x80x64x256) ![0, g + 6, 0, 0] S1x1x64x256.size u6).toLoadRect (harg4.unread x2))
          (v18.readCov (⟨Rect.unit (s := S80x256) ![0, 0] S80x256.size i0, inv⟩ :: l18) (Rect.unit (s := S80x256) ![g + 6, 0] S1x256.size r6).toLoadRect)
          (v21.readCov (⟨Rect.unit (s := S80x256) ![0, 0] S80x256.size i1, ws⟩ :: l21) (Rect.unit (s := S80x256) ![g + 6, 0] S1x256.size r6).toLoadRect))
        (kXw (View.readAt (Elt Ideal) arg4.view (Rect.unit (s := S1x80x64x256) ![0, g + 7, 0, 0] S1x1x64x256.size u7).toLoadRect (harg4.unread x2))
          (v18.readCov (⟨Rect.unit (s := S80x256) ![0, 0] S80x256.size i0, inv⟩ :: l18) (Rect.unit (s := S80x256) ![g + 7, 0] S1x256.size r7).toLoadRect)
          (v21.readCov (⟨Rect.unit (s := S80x256) ![0, 0] S80x256.size i1, ws⟩ :: l21) (Rect.unit (s := S80x256) ![g + 7, 0] S1x256.size r7).toLoadRect))
        qb) i2)
      (v22.readCov (⟨Rect.unit (s := S80x128) ![0, 0] S80x128.size i3, ae⟩ :: l22) (Rect.unit (s := S80x128) ![k, 0] S1x128.size i4).toLoadRect)
      hr j
      = hBlk a (xh x2) dt b hp ((Rect.unit (s := S1x80x64x128) ![0, k, 0, 0] S1x1x64x128.size i5).emb j) := by
  obtain ⟨p, n, rfl⟩ := idx4_eta j
  refine (kH_at (a := a ⟨k, hk⟩) (dt := dt ⟨k, hk⟩) (b := b) (x := xh x2 ⟨k, hk⟩) (h := hp ⟨k, hk⟩) ?_ ?_ hH p n).trans
    (congrArg (hBlk a (xh x2) dt b hp) (emb4 k i5 hk p n)).symm
  · intro p n
    have hq : o / 64 < 8 := by omega
    refine (slice2 (kSt _ _ _ _ _ _ _ _ qb) o i2 p n (by omega)).trans ?_
    have hst := kSt_at (X := fun i p s => qX (xh x2 ⟨g + i.val, by omega⟩) p s
        * (wst (a ⟨g + i.val, by omega⟩) (xh x2 ⟨g + i.val, by omega⟩) (dt ⟨g + i.val, by omega⟩) s * sB b))
      (F.xw g (by omega) (i0 := u0) (i1 := i0) (i2 := r0) (i3 := i1) (i4 := r0) (arg4 := arg4) (harg4 := harg4) (v18 := v18) (v21 := v21) (l18 := l18) (l21 := l21))
      (F.xw (g + 1) (by omega) (i0 := u1) (i1 := i0) (i2 := r1) (i3 := i1) (i4 := r1) (arg4 := arg4) (harg4 := harg4) (v18 := v18) (v21 := v21) (l18 := l18) (l21 := l21))
      (F.xw (g + 2) (by omega) (i0 := u2) (i1 := i0) (i2 := r2) (i3 := i1) (i4 := r2) (arg4 := arg4) (harg4 := harg4) (v18 := v18) (v21 := v21) (l18 := l18) (l21 := l21))
      (F.xw (g + 3) (by omega) (i0 := u3) (i1 := i0) (i2 := r3) (i3 := i1) (i4 := r3) (arg4 := arg4) (harg4 := harg4) (v18 := v18) (v21 := v21) (l18 := l18) (l21 := l21))
      (F.xw (g + 4) (by omega) (i0 := u4) (i1 := i0) (i2 := r4) (i3 := i1) (i4 := r4) (arg4 := arg4) (harg4 := harg4) (v18 := v18) (v21 := v21) (l18 := l18) (l21 := l21))
      (F.xw (g + 5) (by omega) (i0 := u5) (i1 := i0) (i2 := r5) (i3 := i1) (i4 := r5) (arg4 := arg4) (harg4 := harg4) (v18 := v18) (v21 := v21) (l18 := l18) (l21 := l21))
      (F.xw (g + 6) (by omega) (i0 := u6) (i1 := i0) (i2 := r6) (i3 := i1) (i4 := r6) (arg4 := arg4) (harg4 := harg4) (v18 := v18) (v21 := v21) (l18 := l18) (l21 := l21))
      (F.xw (g + 7) (by omega) (i0 := u7) (i1 := i0) (i2 := r7) (i3 := i1) (i4 := r7) (arg4 := arg4) (harg4 := harg4) (v18 := v18) (v21 := v21) (l18 := l18) (l21 := l21))
      F.qb ⟨o / 64, hq⟩ p n
    refine Eq.trans ?_ (hst.trans ?_)
    · refine congrArg (kSt _ _ _ _ _ _ _ _ qb) (congrArg (fun q => ix2 q n) (Fin.ext ?_))
      show o + p.val = 64 * (o / 64) + p.val
      omega
    · have : (⟨g + o / 64, by omega⟩ : Fin 80) = ⟨k, hk⟩ := Fin.ext (by simp only; omega)
      simp only [this]
      exact stU_eq _ _ _ b p n
  · intro n
    refine (cov2 v22 _ ae _ k 0 _ 0 n (by simpa using hk) (by omega)).trans ?_
    rw [F.ae]
    rfl

/-- The state of a head, the states before the chunk being loaded from their block. -/
theorem Facts.hB (F : Facts a (xh x2) dt b c inv a2 e ws ae bt cb qb qc) (k g o : ℕ) (hk : k < 80)
    (hg : g + 8 ≤ 80) (ho : g * 64 + o = k * 64) (ho' : o < 512)
    {κ9 : Kind} {s9 : Space} {arg9 : Memref sig κ9 s9 S1x80x64x128 .f32} {harg9 : arg9.IsWhole} {xo7 : FVec Ideal S1x80x64x128 .f32} {i0 i1 i2 i3 i4 i5 i6 u0 r0 u1 r1 u2 r2 u3 r3 u4 r4 u5 r5 u6 r6 u7 r7} (j : S1x1x64x128.Idx) :
    kH (extractStridedSlice S64x128 ![o, 0] (kSt
        (kXw (View.readAt (Elt Ideal) arg4.view (Rect.unit (s := S1x80x64x256) ![0, g, 0, 0] S1x1x64x256.size u0).toLoadRect (harg4.unread x2))
          (v18.readCov (⟨Rect.unit (s := S80x256) ![0, 0] S80x256.size i0, inv⟩ :: l18) (Rect.unit (s := S80x256) ![g, 0] S1x256.size r0).toLoadRect)
          (v21.readCov (⟨Rect.unit (s := S80x256) ![0, 0] S80x256.size i1, ws⟩ :: l21) (Rect.unit (s := S80x256) ![g, 0] S1x256.size r0).toLoadRect))
        (kXw (View.readAt (Elt Ideal) arg4.view (Rect.unit (s := S1x80x64x256) ![0, g + 1, 0, 0] S1x1x64x256.size u1).toLoadRect (harg4.unread x2))
          (v18.readCov (⟨Rect.unit (s := S80x256) ![0, 0] S80x256.size i0, inv⟩ :: l18) (Rect.unit (s := S80x256) ![g + 1, 0] S1x256.size r1).toLoadRect)
          (v21.readCov (⟨Rect.unit (s := S80x256) ![0, 0] S80x256.size i1, ws⟩ :: l21) (Rect.unit (s := S80x256) ![g + 1, 0] S1x256.size r1).toLoadRect))
        (kXw (View.readAt (Elt Ideal) arg4.view (Rect.unit (s := S1x80x64x256) ![0, g + 2, 0, 0] S1x1x64x256.size u2).toLoadRect (harg4.unread x2))
          (v18.readCov (⟨Rect.unit (s := S80x256) ![0, 0] S80x256.size i0, inv⟩ :: l18) (Rect.unit (s := S80x256) ![g + 2, 0] S1x256.size r2).toLoadRect)
          (v21.readCov (⟨Rect.unit (s := S80x256) ![0, 0] S80x256.size i1, ws⟩ :: l21) (Rect.unit (s := S80x256) ![g + 2, 0] S1x256.size r2).toLoadRect))
        (kXw (View.readAt (Elt Ideal) arg4.view (Rect.unit (s := S1x80x64x256) ![0, g + 3, 0, 0] S1x1x64x256.size u3).toLoadRect (harg4.unread x2))
          (v18.readCov (⟨Rect.unit (s := S80x256) ![0, 0] S80x256.size i0, inv⟩ :: l18) (Rect.unit (s := S80x256) ![g + 3, 0] S1x256.size r3).toLoadRect)
          (v21.readCov (⟨Rect.unit (s := S80x256) ![0, 0] S80x256.size i1, ws⟩ :: l21) (Rect.unit (s := S80x256) ![g + 3, 0] S1x256.size r3).toLoadRect))
        (kXw (View.readAt (Elt Ideal) arg4.view (Rect.unit (s := S1x80x64x256) ![0, g + 4, 0, 0] S1x1x64x256.size u4).toLoadRect (harg4.unread x2))
          (v18.readCov (⟨Rect.unit (s := S80x256) ![0, 0] S80x256.size i0, inv⟩ :: l18) (Rect.unit (s := S80x256) ![g + 4, 0] S1x256.size r4).toLoadRect)
          (v21.readCov (⟨Rect.unit (s := S80x256) ![0, 0] S80x256.size i1, ws⟩ :: l21) (Rect.unit (s := S80x256) ![g + 4, 0] S1x256.size r4).toLoadRect))
        (kXw (View.readAt (Elt Ideal) arg4.view (Rect.unit (s := S1x80x64x256) ![0, g + 5, 0, 0] S1x1x64x256.size u5).toLoadRect (harg4.unread x2))
          (v18.readCov (⟨Rect.unit (s := S80x256) ![0, 0] S80x256.size i0, inv⟩ :: l18) (Rect.unit (s := S80x256) ![g + 5, 0] S1x256.size r5).toLoadRect)
          (v21.readCov (⟨Rect.unit (s := S80x256) ![0, 0] S80x256.size i1, ws⟩ :: l21) (Rect.unit (s := S80x256) ![g + 5, 0] S1x256.size r5).toLoadRect))
        (kXw (View.readAt (Elt Ideal) arg4.view (Rect.unit (s := S1x80x64x256) ![0, g + 6, 0, 0] S1x1x64x256.size u6).toLoadRect (harg4.unread x2))
          (v18.readCov (⟨Rect.unit (s := S80x256) ![0, 0] S80x256.size i0, inv⟩ :: l18) (Rect.unit (s := S80x256) ![g + 6, 0] S1x256.size r6).toLoadRect)
          (v21.readCov (⟨Rect.unit (s := S80x256) ![0, 0] S80x256.size i1, ws⟩ :: l21) (Rect.unit (s := S80x256) ![g + 6, 0] S1x256.size r6).toLoadRect))
        (kXw (View.readAt (Elt Ideal) arg4.view (Rect.unit (s := S1x80x64x256) ![0, g + 7, 0, 0] S1x1x64x256.size u7).toLoadRect (harg4.unread x2))
          (v18.readCov (⟨Rect.unit (s := S80x256) ![0, 0] S80x256.size i0, inv⟩ :: l18) (Rect.unit (s := S80x256) ![g + 7, 0] S1x256.size r7).toLoadRect)
          (v21.readCov (⟨Rect.unit (s := S80x256) ![0, 0] S80x256.size i1, ws⟩ :: l21) (Rect.unit (s := S80x256) ![g + 7, 0] S1x256.size r7).toLoadRect))
        qb) i2)
      (v22.readCov (⟨Rect.unit (s := S80x128) ![0, 0] S80x128.size i3, ae⟩ :: l22) (Rect.unit (s := S80x128) ![k, 0] S1x128.size i4).toLoadRect)
      (View.readAt (Elt Ideal) arg9.view (Rect.unit (s := S1x80x64x128) ![0, k, 0, 0] S1x1x64x128.size i6).toLoadRect (harg9.unread xo7)) j
      = hBlk a (xh x2) dt b (hh xo7) ((Rect.unit (s := S1x80x64x128) ![0, k, 0, 0] S1x1x64x128.size i5).emb j) :=
  F.h k g o hk hg ho ho' (fun p n => (ld4 harg9 xo7 k 1 i6 0 (by simpa using hk) p n).trans rfl) j

/-- Zeros. -/
def kZero : FVec Ideal S1x80x64x128 .f32 := broadcast S1x80x64x128 (Scalar.ofBits .f32 0x00000000#32)

/-- The list of stores leaves zeros from row `k` on. -/
def Zr (L : List (View.Piece (Elt Ideal) S1x80x64x128 .f32)) (k : ℕ) : Prop :=
  ∀ y : S1x80x64x128.Idx, k ≤ (y 1).val → View.canon L y = (0 : EReal)

theorem Zr.base {inb} {k : ℕ} : Zr [⟨Rect.unit (s := S1x80x64x128) ![0, 0, 0, 0] S1x80x64x128.size inb, kZero⟩] k := fun y _ =>
  (congrFun (View.canon_cons_unit_lit (S := S1x80x64x128) _ _ _ (by decide)) y).trans (show kZero y = (0 : EReal) from Ideal.ofBits_zero .f32)

/-- Every store but the first one made stays in the rows before `k`. -/
def zchk (k : ℕ) : List (View.Piece (Elt Ideal) S1x80x64x128 .f32) → Bool
  | [] => true
  | [_] => true
  | p :: q :: L => Nat.blt (p.1.off (1 : Fin 4)) k && Nat.beq (p.1.size (1 : Fin 4)) 1 && zchk k (q :: L)

/-- Zeros are left by a first store of zeros over the whole block and later stores in earlier rows. -/
theorem Zr.of {L : List (View.Piece (Elt Ideal) S1x80x64x128 .f32)} {k : ℕ} (h : zchk k L = true)
    (hl : ∃ inb, L.getLast? = some ⟨Rect.unit (s := S1x80x64x128) ![0, 0, 0, 0] S1x80x64x128.size inb, kZero⟩) : Zr L k := by
  obtain ⟨inb, hl⟩ := hl
  induction L with
  | nil => cases hl
  | cons p L ih =>
    cases L with
    | nil =>
      obtain rfl : p = _ := Option.some.inj hl
      exact Zr.base
    | cons q L =>
      rw [zchk, Bool.and_eq_true, Bool.and_eq_true] at h
      intro y hy
      refine (View.canon_cons_of_not_mem _ _ ?_).trans (ih h.2 (by simpa [List.getLast?_cons_cons] using hl) y hy)
      intro hm
      obtain ⟨j, hj, he⟩ := (LoadRect.mem_set _).1 hm (1 : Fin 4)
      have h1 : p.1.off (1 : Fin 4) < k := by simpa using h.1.1
      have h2 : p.1.size (1 : Fin 4) = 1 := by simpa using h.1.2
      rw [h2] at hj
      obtain rfl : j = 0 := by omega
      rw [Nat.mul_zero, Nat.add_zero] at he
      omega

theorem Zr.read {κ : Kind} {s : Space} {v : View sig κ s S1x80x64x128 .f32} {L : List (View.Piece (Elt Ideal) S1x80x64x128 .f32)} {k K : ℕ} (h : Zr L k)
    (inb : ∀ a, (![0, k, 0, 0] : Fin 4 → ℕ) a + (⟨4, ![1, K, 64, 128]⟩ : Shape).size a ≤ S1x80x64x128.size a) (_ : 0 ≤ k) (i : Fin K) (p : Fin 64) (n : Fin 128) :
    v.readCov L (Rect.unit (s := S1x80x64x128) ![0, k, 0, 0] (⟨4, ![1, K, 64, 128]⟩ : Shape).size inb).toLoadRect (ix4 0 i p n) = (0 : EReal) := by
  refine (congrFun (View.readCov_eq_canon' _ _ _) _).trans (h _ ?_)
  show k ≤ k + 1 * i.val
  omega

/-- The list of stores leaves `G` in the rows before `k`. -/
def Rows (G : S1x80x64x128.Idx → EReal) (L : List (View.Piece (Elt Ideal) S1x80x64x128 .f32)) (k : ℕ) : Prop :=
  ∀ y : S1x80x64x128.Idx, (y 1).val < k → View.canon L y = G y

theorem Rows.zero {G : S1x80x64x128.Idx → EReal} {L : List (View.Piece (Elt Ideal) S1x80x64x128 .f32)} : Rows G L 0 := fun _ h => absurd h (Nat.not_lt_zero _)

theorem Rows.cons {G : S1x80x64x128.Idx → EReal} {L : List (View.Piece (Elt Ideal) S1x80x64x128 .f32)} {k : ℕ} {inb} {w : S1x1x64x128.Idx → Elt Ideal .f32}
    (hw : ∀ j : S1x1x64x128.Idx, w j = G ((Rect.unit (s := S1x80x64x128) ![0, k, 0, 0] S1x1x64x128.size inb).emb j)) (h : Rows G L k) :
    Rows G (⟨Rect.unit (s := S1x80x64x128) ![0, k, 0, 0] S1x1x64x128.size inb, w⟩ :: L) (k + 1) := fun y hy => by
  by_cases hk : (y 1).val < k
  · refine (View.canon_cons_of_not_mem _ L ?_).trans (h y hk)
    intro hm
    have := ((Rect.mem_set_unit (inb := inb)).1 hm) 1
    have h2 : k ≤ (y 1).val := this.1
    omega
  · have he : (Rect.unit (s := S1x80x64x128) ![0, k, 0, 0] S1x1x64x128.size inb).emb (ix4 0 0 (y 2) (y 3)) = y := by
      have hk16 : k < 80 := by have : (y 1).val < 80 := (y 1).isLt; omega
      refine (emb4 k inb hk16 (y 2) (y 3)).trans ?_
      rw [eq_ix4 y]
      have h1 : (⟨k, hk16⟩ : Fin 80) = y 1 := Fin.ext (by show k = (y 1).val; omega)
      have h0 : (0 : Fin 1) = y 0 := Subsingleton.elim (α := Fin 1) _ _
      exact congrArg₂ (fun a b => ix4 a b (y 2) (y 3)) h0 h1
    rw [← he]
    exact (View.canon_cons_emb (Val := Elt Ideal) (Rect.unit (s := S1x80x64x128) ![0, k, 0, 0] S1x1x64x128.size inb) w L (ix4 0 0 (y 2) (y 3))).trans (hw (ix4 0 0 (y 2) (y 3)))

/-- The output of a head at the first chunk. -/
theorem Facts.yA (F : Facts a (xh x2) dt b c inv a2 e ws ae bt cb qb qc) (k g o : ℕ) (hk : k < 80)
    (hg : g + 8 ≤ 80) (ho : g * 64 + o = k * 64) (ho' : o < 512)
    {κ9 : Kind} {s9 : Space} {v9 : View sig κ9 s9 S1x80x64x128 .f32} {L9 : List (View.Piece (Elt Ideal) S1x80x64x128 .f32)} (hz : Zr L9 g) (hd : ∀ h, x1 (ix1 h) = d h)
    {i0 i0' i1 i2 i3 i4 i5 i6 i7 i8 i9 i10 i11 i12 i13 i14 i15 i16 i17 i18 i19 i20 i21 i22 i23 i24} (j : S1x1x64x256.Idx) :
    kY (View.readAt (Elt Ideal) arg4.view (Rect.unit (s := S1x80x64x256) ![0, k, 0, 0] S1x1x64x256.size i15).toLoadRect (harg4.unread x2))
      (v18.readCov (⟨Rect.unit (s := S80x256) ![0, 0] S80x256.size i16, inv⟩ :: l18) (Rect.unit (s := S80x256) ![k, 0] S1x256.size i17).toLoadRect)
     (kTiles
      (kDiag (v19.readCov (⟨Rect.unit (s := S80x256) ![0, 0] S80x256.size i0, a2⟩ :: l19) (Rect.unit (s := S80x256) ![k, 0] S1x128.size i1).toLoadRect)
        (v23.readCov (⟨Rect.unit (s := S256x80) ![0, 0] S256x80.size i2, bt⟩ :: l23) (Rect.unit (s := S256x80) ![0, k] S128x1.size i3).toLoadRect)
        (v17.readCov (⟨Rect.unit (s := S256x256) ![0, 0] S256x256.size i4, cb⟩ :: l17) (Rect.unit (s := S256x256) ![0, 0] S128x128.size i5).toLoadRect))
      (kOff (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i7, bt⟩ :: l23) (Rect.unit (s := S256x80) ![0, k] S128x1.size i8).toLoadRect)
        (v17.readCov (⟨Rect.unit (s := S256x256) ![0, 0] S256x256.size i9, cb⟩ :: l17) (Rect.unit (s := S256x256) ![0, 128] S128x128.size i10).toLoadRect))
      (kDiag (v19.readCov (⟨Rect.unit (s := S80x256) ![0, 0] S80x256.size i0', a2⟩ :: l19) (Rect.unit (s := S80x256) ![k, 128] S1x128.size i6).toLoadRect)
        (v23.readCov (⟨Rect.unit (s := S256x80) ![0, 0] S256x80.size i11, bt⟩ :: l23) (Rect.unit (s := S256x80) ![128, k] S128x1.size i12).toLoadRect)
        (v17.readCov (⟨Rect.unit (s := S256x256) ![0, 0] S256x256.size i13, cb⟩ :: l17) (Rect.unit (s := S256x256) ![128, 128] S128x128.size i14).toLoadRect)))
     (extractStridedSlice S64x256 ![o, 0] (kYoff qc (v9.readCov L9 (Rect.unit (s := S1x80x64x128) ![0, g, 0, 0] S1x8x64x128.size i24).toLoadRect)) i18)
     (v20.readCov (⟨Rect.unit (s := S80x256) ![0, 0] S80x256.size i19, e⟩ :: l20) (Rect.unit (s := S80x256) ![k, 0] S1x256.size i20).toLoadRect)
     (View.readAt (Elt Ideal) arg3.view (Rect.unit (s := S80) ![k] S1.size i21).toLoadRect (harg3.unread x1) (Shape.Idx.first i22)) j
      = yBlk a d (xh x2) dt b c (fun _ _ _ => 0) ((Rect.unit (s := S1x80x64x256) ![0, k, 0, 0] S1x1x64x256.size i23).emb j) :=
  F.y k g o hk hg ho ho' (fun i p n => hz.read i24 (by omega) i p n) hd j

/-- The state of a head after the first chunk. -/
theorem Facts.hA (F : Facts a (xh x2) dt b c inv a2 e ws ae bt cb qb qc) (k g o : ℕ) (hk : k < 80)
    (hg : g + 8 ≤ 80) (ho : g * 64 + o = k * 64) (ho' : o < 512)
    {κ9 : Kind} {s9 : Space} {v9 : View sig κ9 s9 S1x80x64x128 .f32} {L9 : List (View.Piece (Elt Ideal) S1x80x64x128 .f32)} (hz : Zr L9 k) {i0 i1 i2 i3 i4 i5 i6 u0 r0 u1 r1 u2 r2 u3 r3 u4 r4 u5 r5 u6 r6 u7 r7} (j : S1x1x64x128.Idx) :
    kH (extractStridedSlice S64x128 ![o, 0] (kSt
        (kXw (View.readAt (Elt Ideal) arg4.view (Rect.unit (s := S1x80x64x256) ![0, g, 0, 0] S1x1x64x256.size u0).toLoadRect (harg4.unread x2))
          (v18.readCov (⟨Rect.unit (s := S80x256) ![0, 0] S80x256.size i0, inv⟩ :: l18) (Rect.unit (s := S80x256) ![g, 0] S1x256.size r0).toLoadRect)
          (v21.readCov (⟨Rect.unit (s := S80x256) ![0, 0] S80x256.size i1, ws⟩ :: l21) (Rect.unit (s := S80x256) ![g, 0] S1x256.size r0).toLoadRect))
        (kXw (View.readAt (Elt Ideal) arg4.view (Rect.unit (s := S1x80x64x256) ![0, g + 1, 0, 0] S1x1x64x256.size u1).toLoadRect (harg4.unread x2))
          (v18.readCov (⟨Rect.unit (s := S80x256) ![0, 0] S80x256.size i0, inv⟩ :: l18) (Rect.unit (s := S80x256) ![g + 1, 0] S1x256.size r1).toLoadRect)
          (v21.readCov (⟨Rect.unit (s := S80x256) ![0, 0] S80x256.size i1, ws⟩ :: l21) (Rect.unit (s := S80x256) ![g + 1, 0] S1x256.size r1).toLoadRect))
        (kXw (View.readAt (Elt Ideal) arg4.view (Rect.unit (s := S1x80x64x256) ![0, g + 2, 0, 0] S1x1x64x256.size u2).toLoadRect (harg4.unread x2))
          (v18.readCov (⟨Rect.unit (s := S80x256) ![0, 0] S80x256.size i0, inv⟩ :: l18) (Rect.unit (s := S80x256) ![g + 2, 0] S1x256.size r2).toLoadRect)
          (v21.readCov (⟨Rect.unit (s := S80x256) ![0, 0] S80x256.size i1, ws⟩ :: l21) (Rect.unit (s := S80x256) ![g + 2, 0] S1x256.size r2).toLoadRect))
        (kXw (View.readAt (Elt Ideal) arg4.view (Rect.unit (s := S1x80x64x256) ![0, g + 3, 0, 0] S1x1x64x256.size u3).toLoadRect (harg4.unread x2))
          (v18.readCov (⟨Rect.unit (s := S80x256) ![0, 0] S80x256.size i0, inv⟩ :: l18) (Rect.unit (s := S80x256) ![g + 3, 0] S1x256.size r3).toLoadRect)
          (v21.readCov (⟨Rect.unit (s := S80x256) ![0, 0] S80x256.size i1, ws⟩ :: l21) (Rect.unit (s := S80x256) ![g + 3, 0] S1x256.size r3).toLoadRect))
        (kXw (View.readAt (Elt Ideal) arg4.view (Rect.unit (s := S1x80x64x256) ![0, g + 4, 0, 0] S1x1x64x256.size u4).toLoadRect (harg4.unread x2))
          (v18.readCov (⟨Rect.unit (s := S80x256) ![0, 0] S80x256.size i0, inv⟩ :: l18) (Rect.unit (s := S80x256) ![g + 4, 0] S1x256.size r4).toLoadRect)
          (v21.readCov (⟨Rect.unit (s := S80x256) ![0, 0] S80x256.size i1, ws⟩ :: l21) (Rect.unit (s := S80x256) ![g + 4, 0] S1x256.size r4).toLoadRect))
        (kXw (View.readAt (Elt Ideal) arg4.view (Rect.unit (s := S1x80x64x256) ![0, g + 5, 0, 0] S1x1x64x256.size u5).toLoadRect (harg4.unread x2))
          (v18.readCov (⟨Rect.unit (s := S80x256) ![0, 0] S80x256.size i0, inv⟩ :: l18) (Rect.unit (s := S80x256) ![g + 5, 0] S1x256.size r5).toLoadRect)
          (v21.readCov (⟨Rect.unit (s := S80x256) ![0, 0] S80x256.size i1, ws⟩ :: l21) (Rect.unit (s := S80x256) ![g + 5, 0] S1x256.size r5).toLoadRect))
        (kXw (View.readAt (Elt Ideal) arg4.view (Rect.unit (s := S1x80x64x256) ![0, g + 6, 0, 0] S1x1x64x256.size u6).toLoadRect (harg4.unread x2))
          (v18.readCov (⟨Rect.unit (s := S80x256) ![0, 0] S80x256.size i0, inv⟩ :: l18) (Rect.unit (s := S80x256) ![g + 6, 0] S1x256.size r6).toLoadRect)
          (v21.readCov (⟨Rect.unit (s := S80x256) ![0, 0] S80x256.size i1, ws⟩ :: l21) (Rect.unit (s := S80x256) ![g + 6, 0] S1x256.size r6).toLoadRect))
        (kXw (View.readAt (Elt Ideal) arg4.view (Rect.unit (s := S1x80x64x256) ![0, g + 7, 0, 0] S1x1x64x256.size u7).toLoadRect (harg4.unread x2))
          (v18.readCov (⟨Rect.unit (s := S80x256) ![0, 0] S80x256.size i0, inv⟩ :: l18) (Rect.unit (s := S80x256) ![g + 7, 0] S1x256.size r7).toLoadRect)
          (v21.readCov (⟨Rect.unit (s := S80x256) ![0, 0] S80x256.size i1, ws⟩ :: l21) (Rect.unit (s := S80x256) ![g + 7, 0] S1x256.size r7).toLoadRect))
        qb) i2)
      (v22.readCov (⟨Rect.unit (s := S80x128) ![0, 0] S80x128.size i3, ae⟩ :: l22) (Rect.unit (s := S80x128) ![k, 0] S1x128.size i4).toLoadRect)
      (v9.readCov L9 (Rect.unit (s := S1x80x64x128) ![0, k, 0, 0] S1x1x64x128.size i6).toLoadRect) j
      = hBlk a (xh x2) dt b (fun _ _ _ => 0) ((Rect.unit (s := S1x80x64x128) ![0, k, 0, 0] S1x1x64x128.size i5).emb j) :=
  F.h k g o hk hg ho ho' (fun p n => hz.read i6 (by omega) 0 p n) j

/-- The row of largest absolute values of one head. -/
theorem amaxRow (k : ℕ) (hk : k < 80) {i0 i1} (j : S1x256.Idx) :
    kAmaxX (View.readAt (Elt Ideal) arg4.view (Rect.unit (s := S1x80x64x256) ![0, k, 0, 0] S1x1x64x256.size i0).toLoadRect (harg4.unread x2)) j
      = mxBlk (xh x2) ((Rect.unit (s := S80x256) ![k, 0] S1x256.size i1).emb j) := by
  obtain ⟨s, rfl⟩ : ∃ s : Fin 256, j = ix2 0 s := ⟨j 1, by
    rw [eq_ix2 j]
    congr 1
    exact Subsingleton.elim (α := Fin 1) _ _⟩
  refine (kAmaxX_at _ (xh x2 ⟨k, hk⟩) (xLoad k hk) s).trans ?_
  refine congrArg₂ (fun h s => mX (xh x2 h) s) (Fin.ext ?_) (Fin.ext ?_)
  · show k = k + 1 * 0
    omega
  · show s.val = 0 + 1 * s.val
    omega

/-- The shared vectors from the decay logarithms, the steps, the scales and the codes. -/
theorem mkFacts {x : Fin 80 → Fin 64 → Fin 256 → EReal} (hok : ∀ h, Ok (a h) (dt h)) {w v446 v433 : FVec Ideal S80x256 .f32} {v80 v159 : FVec Ideal S1x1 .f32}
    (hw : ∀ h s, w (ix2 h s) = a h * dt h s) (h446 : ∀ h s, v446 (ix2 h s) = dt h s) (hsc : ∀ h s, v433 (ix2 h s) = sX (x h) s)
    (hinv : ∀ h s, inv (ix2 h s) = (isc (mX (x h) s) : EReal)) (h80 : v80 (ix2 0 0) = sB b) (h159 : v159 (ix2 0 0) = sB c)
    (hqb : ∀ s n, qb (ix2 s n) = qB b s n) (hqc : ∀ s n, qc (ix2 s n) = qB c s n) :
    Facts a x dt b c inv (shapeCast S80x256 (kA2 w) shapeCasts_S80x256_S80x256) (kE v159 (kA2 w)) (kWs v80 (mulf v446 v433) (kA2 w)) (kAe (kA2 w))
      (kBt (mulf v446 v433) (kA2 w)) (kCb v80 v159 qb qc) qb qc := by
  have hA : ∀ h t, kA2 w (ix2 h t) = acs (a h) (dt h) t * L2 := fun h t => kA2_at (hok h) h (hw h) t
  have hD : ∀ h s, mulf v446 v433 (ix2 h s) = dX (x h) (dt h) s := fun h s => by
    have e : mulf v446 v433 (ix2 h s) = (v446 (ix2 h s) : EReal) * v433 (ix2 h s) := rfl
    rw [e, h446, hsc, dX]
  exact {
    ok := hok
    inv := hinv
    a2 := fun h t => by
      have e : shapeCast S80x256 (kA2 w) shapeCasts_S80x256_S80x256 (ix2 h t) = kA2 w (ix2 h t) := by pointwise []
      rw [e, hA]
    e := fun h t => kE_at (hok h) h h159 (hA h) t
    ws := fun h s => kWs_at (hok h) h h80 (hA h) (hD h) s
    ae := fun h n => kAe_at (hok h) h (hA h) n
    bt := fun s h => kBt_at h (hA h) (hD h) s
    cb := fun s t => kCb_at hqb hqc h80 h159 s t
    qb := hqb
    qc := hqc }

/-- The conditions on the inputs of a chunk. -/
structure Good (a : Fin 80 → EReal) (x2 : Vec Ideal S1x80x64x256 .bf16) (x3 : Vec Ideal S1x80x256 .f32) (x4 x5 : Vec Ideal S1x256x128 .bf16) : Prop where
  ok : ∀ h, Ok (a h) (dth x3 h)
  x : ∀ h s, Small (mX (xh x2 h) s)
  b : Small (mB (bh x4))
  c : Small (mB (bh x5))

/-- The rates of the heads, one row each. -/
def acBlk (a : Fin 80 → EReal) : S80x256.Idx → EReal := fun y => a (y 0)

end Cert.Ssd
-- ==== Proof.Arrays.lean ====
module

public import proofs.«01_k».proof.Proof.Scan
public import proofs.«01_k».proof.Proof.Head
public import proofs.«01_k».proof.Proof.Gen.KernelIdeal.Value
public import Idealize.ShloMosaic.Lib.Claim
public import Idealize.ShloMosaic.Lib.Pipeline.ValueKit

/-!
The blocks the kernel is given at a point of the grid, in terms of the arrays of the call.
-/

@[expose] public section

set_option maxRecDepth 16384

noncomputable section

open Idealize.ShloMosaic Idealize.ShloMosaic.TcCoe Idealize.SL.Sem
open Cert.KernelIdeal Cert.KernelIdeal.Gen

namespace Cert.Ssd

variable (m : (ℓ : Loc nD τ sig) → Buf (Elt Ideal) ℓ)

/-- The arrays of the call. -/
def inp (c : Dev nD) : Inp where
  x n t h p := m ((c : Thread nD τ).loc main_arg0) (ix4 n t h p)
  dt n t h := m ((c : Thread nD τ).loc main_arg1) (ix3 n t h)
  a h := m ((c : Thread nD τ).loc main_arg2) (ix1 h)
  b n t l := m ((c : Thread nD τ).loc main_arg3) (ix4 n t 0 l)
  c n t l := m ((c : Thread nD τ).loc main_arg4) (ix4 n t 0 l)
  d h := m ((c : Thread nD τ).loc main_arg5) (ix1 h)

/-- The batch of a point. -/
def nOf (t : Fin cfg0.N) : Fin 4 := ⟨t.val / 10, by have h := t.isLt; have e : cfg0.N = 40 := N_0; omega⟩
/-- The chunk of a point. -/
def kOf (t : Fin cfg0.N) : Fin 10 := ⟨t.val % 10, by omega⟩

/-- The second coordinate of a point is its chunk. -/
theorem coord1 : ∀ t : Fin cfg0.N, (grid0.coords t 1).val = t.val % 10 :=
  (by decide +kernel : ∀ t : Fin grid0.N, (grid0.coords t 1).val = t.val % 10)

/-- The blocks that a point is given. -/
theorem idx : ∀ t : Fin cfg0.N, win0_0.index t = ![0] ∧ win0_1.index t = ![0] ∧ win0_2.index t = ![t.val / 10, 0, 0, t.val % 10]
    ∧ win0_3.index t = ![t.val / 10, 0, t.val % 10] ∧ win0_4.index t = ![t.val / 10, t.val % 10, 0] ∧ win0_5.index t = ![t.val / 10, t.val % 10, 0] :=
  (by decide +kernel : ∀ t : Fin grid0.N, _)

variable (c : Dev nD) (t : Fin cfg0.N)

theorem V0 : V m c main_v0 = transpose S4x80x64x2560 [0, 2, 3, 1] (m ((c : Thread nD τ).loc main_arg0)) transposes_S4x2560x80x64_S4x80x64x2560_0_2_3_1 := by
  entry_read
  rfl
theorem V1 : V m c main_v1 = transpose S4x80x2560 [0, 2, 1] (m ((c : Thread nD τ).loc main_arg1)) transposes_S4x2560x80_S4x80x2560_0_2_1 := by
  entry_read
  rfl
theorem V2 : V m c main_v2 = shapeCast S4x2560x128 (m ((c : Thread nD τ).loc main_arg3)) shapeCasts_S4x2560x1x128_S4x2560x128 := by
  entry_read
  rfl
theorem V3 : V m c main_v3 = shapeCast S4x2560x128 (m ((c : Thread nD τ).loc main_arg4)) shapeCasts_S4x2560x1x128_S4x2560x128 := by
  entry_read
  rfl

theorem blk0 (h : Fin 80) : (iblk m c 0 t : Vec Ideal S80 .f32) (ix1 h) = (inp m c).a h := by
  show _ = m ((c : Thread nD τ).loc main_arg2) (ix1 h)
  blk_ext [iblk, V, idx t]

theorem blk1 (h : Fin 80) : (iblk m c 1 t : Vec Ideal S80 .f32) (ix1 h) = (inp m c).d h := by
  show _ = m ((c : Thread nD τ).loc main_arg5) (ix1 h)
  blk_ext [iblk, V, idx t]

theorem blk2 (h : Fin 80) : xh (iblk m c 2 t : Vec Ideal S1x80x64x256 .bf16) h = (inp m c).xc (nOf t) (kOf t) h := by
  funext p s
  show (iblk m c 2 t : Vec Ideal S1x80x64x256 .bf16) (ix4 0 h p s) = m ((c : Thread nD τ).loc main_arg0) (ix4 (nOf t) (pos (kOf t) s) h p)
  have e : (win0_2.blk t).view.emb (ix4 0 h p s : S1x80x64x256.Idx) = (ix4 (nOf t) h p (pos (kOf t) s) : S4x80x64x2560.Idx) := by
    blk_ext [idx t]
    · rfl
    · show _ = 256 * (t.val % 10) + s.val; omega
  blk_simp [iblk]
  rw [V0, e]
  pointwise

theorem blk3 (h : Fin 80) : dth (iblk m c 3 t : Vec Ideal S1x80x256 .f32) h = (inp m c).dtc (nOf t) (kOf t) h := by
  funext s
  show (iblk m c 3 t : Vec Ideal S1x80x256 .f32) (ix3 0 h s) = m ((c : Thread nD τ).loc main_arg1) (ix3 (nOf t) (pos (kOf t) s) h)
  have e : (win0_3.blk t).view.emb (ix3 0 h s : S1x80x256.Idx) = (ix3 (nOf t) h (pos (kOf t) s) : S4x80x2560.Idx) := by
    blk_ext [idx t]
    · rfl
    · show _ = 256 * (t.val % 10) + s.val; omega
  blk_simp [iblk]
  rw [V1, e]
  pointwise

theorem blk4 : bh (iblk m c 4 t : Vec Ideal S1x256x128 .bf16) = (inp m c).bc (nOf t) (kOf t) := by
  funext s l
  show (iblk m c 4 t : Vec Ideal S1x256x128 .bf16) (ix3 0 s l) = m ((c : Thread nD τ).loc main_arg3) (ix4 (nOf t) (pos (kOf t) s) 0 l)
  have e : (win0_4.blk t).view.emb (ix3 0 s l : S1x256x128.Idx) = (ix3 (nOf t) (pos (kOf t) s) l : S4x2560x128.Idx) := by
    blk_ext [idx t]
    · rfl
    · show _ = 256 * (t.val % 10) + s.val; omega
  blk_simp [iblk]
  rw [V2, e]
  pointwise

theorem blk5 : bh (iblk m c 5 t : Vec Ideal S1x256x128 .bf16) = (inp m c).cc (nOf t) (kOf t) := by
  funext s l
  show (iblk m c 5 t : Vec Ideal S1x256x128 .bf16) (ix3 0 s l) = m ((c : Thread nD τ).loc main_arg4) (ix4 (nOf t) (pos (kOf t) s) 0 l)
  have e : (win0_5.blk t).view.emb (ix3 0 s l : S1x256x128.Idx) = (ix3 (nOf t) (pos (kOf t) s) l : S4x2560x128.Idx) := by
    blk_ext [idx t]
    · rfl
    · show _ = 256 * (t.val % 10) + s.val; omega
  blk_simp [iblk]
  rw [V3, e]
  pointwise

end Cert.Ssd
-- ==== Proof.SharedA.lean ====
module

public import proofs.«01_k».proof.Proof.Head
public import proofs.«01_k».proof.Proof.Gen.KernelIdeal.Frame

/-!
The vectors the heads share, at the first chunk.
-/

@[expose] public section

set_option maxRecDepth 16384

noncomputable section

open Idealize.ShloMosaic Idealize.ShloMosaic.TcCoe Idealize.SL.Sem
open Cert.KernelIdeal Cert.KernelIdeal.Gen

namespace Cert.Ssd.A

variable {c : Dev nD} {arg4 : Memref sig .tc .vmem S1x80x64x256 .bf16} {harg4 : arg4.IsWhole} {arg5 : Memref sig .tc .vmem S1x80x256 .f32} {harg5 : arg5.IsWhole}
  {arg6 : Memref sig .tc .vmem S1x256x128 .bf16} {harg6 : arg6.IsWhole} {arg7 : Memref sig .tc .vmem S1x256x128 .bf16} {harg7 : arg7.IsWhole}
  {arg16 : Memref sig .tc .vmem S80x256 .f32} {arg2 : Memref sig .tc .smem S80 .f32} {harg2 : arg2.IsWhole} {arg18 : Memref sig .tc .vmem S80x256 .f32}
  {x2 : Vec Ideal S1x80x64x256 .bf16} {x3 : Vec Ideal S1x80x256 .f32} {x4 x5 : Vec Ideal S1x256x128 .bf16} {x0 : Vec Ideal S80 .f32}

theorem v80_eq (i : S1x1.Idx) : kernelRun0_A.sl.v80 c arg6 harg6 x4 i = kscl (kernelRun0_A.sl.v14 c arg6 harg6 x4 i) :=
  kscl_steps (e0 := kernelRun0_A.sl.v15) (k0 := kernelRun0_A.sl.v16) (r := kernelRun0_A.sl.v14 c arg6 harg6 x4) (e1 := kernelRun0_A.sl.v22 c arg6 harg6 x4) (e2 := kernelRun0_A.sl.v29 c arg6 harg6 x4) (e3 := kernelRun0_A.sl.v36 c arg6 harg6 x4) (e4 := kernelRun0_A.sl.v43 c arg6 harg6 x4) (e5 := kernelRun0_A.sl.v50 c arg6 harg6 x4) (e6 := kernelRun0_A.sl.v57 c arg6 harg6 x4) (e7 := kernelRun0_A.sl.v64 c arg6 harg6 x4) (e8 := kernelRun0_A.sl.v71 c arg6 harg6 x4)
    (f := kernelRun0_A.sl.v75 c arg6 harg6 x4) rfl rfl rfl rfl rfl rfl rfl rfl rfl rfl rfl rfl i

theorem v85_eq (i : S1x1.Idx) : kernelRun0_A.sl.v85 c arg6 harg6 x4 i = kisc (kernelRun0_A.sl.v14 c arg6 harg6 x4 i) :=
  kisc_steps (e0 := kernelRun0_A.sl.v15) (k0 := kernelRun0_A.sl.v16) (r := kernelRun0_A.sl.v14 c arg6 harg6 x4) (e1 := kernelRun0_A.sl.v22 c arg6 harg6 x4) (e2 := kernelRun0_A.sl.v29 c arg6 harg6 x4) (e3 := kernelRun0_A.sl.v36 c arg6 harg6 x4) (e4 := kernelRun0_A.sl.v43 c arg6 harg6 x4) (e5 := kernelRun0_A.sl.v50 c arg6 harg6 x4) (e6 := kernelRun0_A.sl.v57 c arg6 harg6 x4) (e7 := kernelRun0_A.sl.v64 c arg6 harg6 x4) (e8 := kernelRun0_A.sl.v71 c arg6 harg6 x4)
    (f := kernelRun0_A.sl.v75 c arg6 harg6 x4) rfl rfl rfl rfl rfl rfl rfl rfl rfl rfl rfl rfl i

theorem v159_eq (i : S1x1.Idx) : kernelRun0_A.sl.v159 c arg7 harg7 x5 i = kscl (kernelRun0_A.sl.v93 c arg7 harg7 x5 i) :=
  kscl_steps (e0 := kernelRun0_A.sl.v15) (k0 := kernelRun0_A.sl.v16) (r := kernelRun0_A.sl.v93 c arg7 harg7 x5) (e1 := kernelRun0_A.sl.v101 c arg7 harg7 x5) (e2 := kernelRun0_A.sl.v108 c arg7 harg7 x5) (e3 := kernelRun0_A.sl.v115 c arg7 harg7 x5) (e4 := kernelRun0_A.sl.v122 c arg7 harg7 x5) (e5 := kernelRun0_A.sl.v129 c arg7 harg7 x5) (e6 := kernelRun0_A.sl.v136 c arg7 harg7 x5) (e7 := kernelRun0_A.sl.v143 c arg7 harg7 x5) (e8 := kernelRun0_A.sl.v150 c arg7 harg7 x5)
    (f := kernelRun0_A.sl.v154 c arg7 harg7 x5) rfl rfl rfl rfl rfl rfl rfl rfl rfl rfl rfl rfl i

theorem v164_eq (i : S1x1.Idx) : kernelRun0_A.sl.v164 c arg7 harg7 x5 i = kisc (kernelRun0_A.sl.v93 c arg7 harg7 x5 i) :=
  kisc_steps (e0 := kernelRun0_A.sl.v15) (k0 := kernelRun0_A.sl.v16) (r := kernelRun0_A.sl.v93 c arg7 harg7 x5) (e1 := kernelRun0_A.sl.v101 c arg7 harg7 x5) (e2 := kernelRun0_A.sl.v108 c arg7 harg7 x5) (e3 := kernelRun0_A.sl.v115 c arg7 harg7 x5) (e4 := kernelRun0_A.sl.v122 c arg7 harg7 x5) (e5 := kernelRun0_A.sl.v129 c arg7 harg7 x5) (e6 := kernelRun0_A.sl.v136 c arg7 harg7 x5) (e7 := kernelRun0_A.sl.v143 c arg7 harg7 x5) (e8 := kernelRun0_A.sl.v150 c arg7 harg7 x5)
    (f := kernelRun0_A.sl.v154 c arg7 harg7 x5) rfl rfl rfl rfl rfl rfl rfl rfl rfl rfl rfl rfl i

theorem v1009_eq (i : S80x256.Idx) : kernelRun0_A.sl.v1009 c arg4 harg4 arg18 x2 i = kscl (kernelRun0_A.sl.v943 c arg4 harg4 arg18 x2 i) :=
  kscl_steps (e0 := kernelRun0_A.sl.v944) (k0 := kernelRun0_A.sl.v945) (r := kernelRun0_A.sl.v943 c arg4 harg4 arg18 x2) (e1 := kernelRun0_A.sl.v951 c arg4 harg4 arg18 x2) (e2 := kernelRun0_A.sl.v958 c arg4 harg4 arg18 x2) (e3 := kernelRun0_A.sl.v965 c arg4 harg4 arg18 x2) (e4 := kernelRun0_A.sl.v972 c arg4 harg4 arg18 x2) (e5 := kernelRun0_A.sl.v979 c arg4 harg4 arg18 x2) (e6 := kernelRun0_A.sl.v986 c arg4 harg4 arg18 x2) (e7 := kernelRun0_A.sl.v993 c arg4 harg4 arg18 x2) (e8 := kernelRun0_A.sl.v1000 c arg4 harg4 arg18 x2)
    (f := kernelRun0_A.sl.v1004 c arg4 harg4 arg18 x2) rfl rfl rfl rfl rfl rfl rfl rfl rfl rfl rfl rfl i

theorem v1014_eq (i : S80x256.Idx) : kernelRun0_A.sl.v1014 c arg4 harg4 arg18 x2 i = kisc (kernelRun0_A.sl.v943 c arg4 harg4 arg18 x2 i) :=
  kisc_steps (e0 := kernelRun0_A.sl.v944) (k0 := kernelRun0_A.sl.v945) (r := kernelRun0_A.sl.v943 c arg4 harg4 arg18 x2) (e1 := kernelRun0_A.sl.v951 c arg4 harg4 arg18 x2) (e2 := kernelRun0_A.sl.v958 c arg4 harg4 arg18 x2) (e3 := kernelRun0_A.sl.v965 c arg4 harg4 arg18 x2) (e4 := kernelRun0_A.sl.v972 c arg4 harg4 arg18 x2) (e5 := kernelRun0_A.sl.v979 c arg4 harg4 arg18 x2) (e6 := kernelRun0_A.sl.v986 c arg4 harg4 arg18 x2) (e7 := kernelRun0_A.sl.v993 c arg4 harg4 arg18 x2) (e8 := kernelRun0_A.sl.v1000 c arg4 harg4 arg18 x2)
    (f := kernelRun0_A.sl.v1004 c arg4 harg4 arg18 x2) rfl rfl rfl rfl rfl rfl rfl rfl rfl rfl rfl rfl i

theorem v80_at (hs : Small (mB (bh x4))) : kernelRun0_A.sl.v80 c arg6 harg6 x4 (ix2 0 0) = sB (bh x4) := by
  rw [v80_eq]
  have e : kernelRun0_A.sl.v14 c arg6 harg6 x4 = kAmaxB (View.readAt (Elt Ideal) arg6.view (Rect.unit (s := S1x256x128) ![0, 0, 0] S1x256x128.size _).toLoadRect (harg6.unread x4)) := rfl
  rw [e, ldWhole harg6 x4 _ off3, kAmaxB_at, kscl_B hs]

theorem v85_at (hs : Small (mB (bh x4))) : kernelRun0_A.sl.v85 c arg6 harg6 x4 (ix2 0 0) = (isc (mB (bh x4)) : EReal) := by
  rw [v85_eq]
  have e : kernelRun0_A.sl.v14 c arg6 harg6 x4 = kAmaxB (View.readAt (Elt Ideal) arg6.view (Rect.unit (s := S1x256x128) ![0, 0, 0] S1x256x128.size _).toLoadRect (harg6.unread x4)) := rfl
  rw [e, ldWhole harg6 x4 _ off3, kAmaxB_at, kisc_B hs]

theorem v159_at (hs : Small (mB (bh x5))) : kernelRun0_A.sl.v159 c arg7 harg7 x5 (ix2 0 0) = sB (bh x5) := by
  rw [v159_eq]
  have e : kernelRun0_A.sl.v93 c arg7 harg7 x5 = kAmaxB (View.readAt (Elt Ideal) arg7.view (Rect.unit (s := S1x256x128) ![0, 0, 0] S1x256x128.size _).toLoadRect (harg7.unread x5)) := rfl
  rw [e, ldWhole harg7 x5 _ off3, kAmaxB_at, kscl_B hs]

theorem v164_at (hs : Small (mB (bh x5))) : kernelRun0_A.sl.v164 c arg7 harg7 x5 (ix2 0 0) = (isc (mB (bh x5)) : EReal) := by
  rw [v164_eq]
  have e : kernelRun0_A.sl.v93 c arg7 harg7 x5 = kAmaxB (View.readAt (Elt Ideal) arg7.view (Rect.unit (s := S1x256x128) ![0, 0, 0] S1x256x128.size _).toLoadRect (harg7.unread x5)) := rfl
  rw [e, ldWhole harg7 x5 _ off3, kAmaxB_at, kisc_B hs]

theorem v4_at (s : Fin 256) (n : Fin 128) : kernelRun0_A.sl.v4 c arg6 harg6 x4 (ix2 s n) = bh x4 s n := by
  unfold kernelRun0_A.sl.v4
  rw [ldWhole harg6 x4 _ off3]
  pointwise []
  rfl

theorem v6_at (s : Fin 256) (n : Fin 128) : kernelRun0_A.sl.v6 c arg7 harg7 x5 (ix2 s n) = bh x5 s n := by
  unfold kernelRun0_A.sl.v6
  rw [ldWhole harg7 x5 _ off3]
  pointwise []
  rfl

theorem v174_at (hs : Small (mB (bh x4))) (s : Fin 256) (n : Fin 128) : kernelRun0_A.sl.v174 c arg6 harg6 x4 (ix2 s n) = qB (bh x4) s n := by
  have e : kernelRun0_A.sl.v174 c arg6 harg6 x4 = kCodesB (kernelRun0_A.sl.v4 c arg6 harg6 x4) (kernelRun0_A.sl.v85 c arg6 harg6 x4) := rfl
  rw [e, kCodesB_at v4_at (v85_at hs)]

theorem v184_at (hs : Small (mB (bh x5))) (s : Fin 256) (n : Fin 128) : kernelRun0_A.sl.v184 c arg7 harg7 x5 (ix2 s n) = qB (bh x5) s n := by
  have e : kernelRun0_A.sl.v184 c arg7 harg7 x5 = kCodesB (kernelRun0_A.sl.v6 c arg7 harg7 x5) (kernelRun0_A.sl.v164 c arg7 harg7 x5) := rfl
  rw [e, kCodesB_at v6_at (v164_at hs)]

theorem v1022_at (h : Fin 80) (s : Fin 256) : kernelRun0_A.sl.v1022 c arg5 harg5 x3 (ix2 h s) = dth x3 h s := by
  unfold kernelRun0_A.sl.v1022
  rw [ldWhole harg5 x3 _ off3]
  pointwise []
  rfl

/-- The largest absolute value of a position, of every head. -/
theorem v941_at (h : Fin 80) (s : Fin 256) : kernelRun0_A.sl.v941 c arg4 harg4 arg18 x2 (ix2 h s) = mX (xh x2 h) s := by
  unfold kernelRun0_A.sl.v941
  rw [View.readCov_eq_canon']
  refine (View.canon_apply_of_pieces (mxBlk (xh x2)) _ ?_ _ (View.cover_of_tiledL (kernelRun0_A.sl.HS2_80 c arg4 harg4 x2) S1x256.size (by sl_kernel_rfl) _)).trans ?_
  · unfold kernelRun0_A.sl.HS2_80
    repeat refine consRow (amaxRow (arg4 := arg4) (harg4 := harg4) _ (by norm_num)) ?_
    exact consNil
  · exact congrArg (mxBlk (xh x2)) ((idx2 0 0 _ h s (by omega) (by omega)).trans (congrArg₂ ix2 (Fin.ext (Nat.zero_add _)) (Fin.ext (Nat.zero_add _))))

theorem v943_at (h : Fin 80) (s : Fin 256) : kernelRun0_A.sl.v943 c arg4 harg4 arg18 x2 (ix2 h s) = mX (xh x2 h) s * (c448 : ℝ) := by
  have e : kernelRun0_A.sl.v943 c arg4 harg4 arg18 x2 (ix2 h s)
      = (kernelRun0_A.sl.v941 c arg4 harg4 arg18 x2 (ix2 h s) : EReal) * Ideal.ofBits FTy.f32 0x3B124925#32 := rfl
  rw [e, v941_at, ofBits_c448]

theorem v1009_at (hs : ∀ h s, Small (mX (xh x2 h) s)) (h : Fin 80) (s : Fin 256) : kernelRun0_A.sl.v1009 c arg4 harg4 arg18 x2 (ix2 h s) = sX (xh x2 h) s := by
  rw [v1009_eq, v943_at, kscl_X (hs h s)]

theorem v1020_at (hs : ∀ h s, Small (mX (xh x2 h) s)) (h : Fin 80) (s : Fin 256) : kernelRun0_A.sl.v1020 c arg4 harg4 arg18 x2 (ix2 h s) = (isc (mX (xh x2 h) s) : EReal) := by
  have e0 : kernelRun0_A.sl.v1020 c arg4 harg4 arg18 x2 (ix2 h s) = kernelRun0_A.sl.v1014 c arg4 harg4 arg18 x2 (ix2 h s) := by
    unfold kernelRun0_A.sl.v1020
    pointwise []
  rw [e0, v1014_eq, v943_at, kisc_X (hs h s)]

/-- The row of one head's rate. -/
theorem acRow (k : ℕ) (hk : k < 80) {i0 i1 h3} {hs1 : S1x256.ShapeCasts S1x256} (j : S1x256.Idx) :
    (shapeCast S1x256 (broadcast S1x256 (View.readAt (Elt Ideal) arg2.view (Rect.unit (s := S80) ![k] S1.size i0).toLoadRect (harg2.unread x0) (Shape.Idx.first h3))) hs1 : FVec Ideal S1x256 .f32) j
      = acBlk (fun h => x0 (ix1 h)) ((Rect.unit (s := S80x256) ![k, 0] S1x256.size i1).emb j) := by
  refine (ld1 harg2 x0 k hk i0 h3).trans ?_
  refine congrArg (fun h => x0 (ix1 h)) (Fin.ext ?_)
  have : (j 0).val < 1 := (j 0).isLt
  show k = k + 1 * (j 0).val
  omega

theorem v1029_at (h : Fin 80) (s : Fin 256) : kernelRun0_A.sl.v1029 c arg2 harg2 arg16 x0 (ix2 h s) = x0 (ix1 h) := by
  unfold kernelRun0_A.sl.v1029
  rw [View.readCov_eq_canon']
  refine (View.canon_apply_of_pieces (acBlk (fun h => x0 (ix1 h))) _ ?_ _ (View.cover_of_tiledL (kernelRun0_A.sl.HS0_80 c arg2 harg2 x0) S1x256.size (by sl_kernel_rfl) _)).trans ?_
  · unfold kernelRun0_A.sl.HS0_80
    repeat refine consRow (acRow (arg2 := arg2) (harg2 := harg2) _ (by norm_num)) ?_
    exact consNil
  · exact congrArg (acBlk (fun h => x0 (ix1 h))) ((idx2 0 0 _ h s (by omega) (by omega)).trans (congrArg₂ ix2 (Fin.ext (Nat.zero_add _)) (Fin.ext (Nat.zero_add _))))

theorem v1030_at (h : Fin 80) (s : Fin 256) :
    (mulf (kernelRun0_A.sl.v1029 c arg2 harg2 arg16 x0) (kernelRun0_A.sl.v1022 c arg5 harg5 x3) : FVec Ideal S80x256 .f32) (ix2 h s) = x0 (ix1 h) * dth x3 h s := by
  have e : (mulf (kernelRun0_A.sl.v1029 c arg2 harg2 arg16 x0) (kernelRun0_A.sl.v1022 c arg5 harg5 x3) : FVec Ideal S80x256 .f32) (ix2 h s)
      = ((kernelRun0_A.sl.v1029 c arg2 harg2 arg16 x0) (ix2 h s) : EReal) * kernelRun0_A.sl.v1022 c arg5 harg5 x3 (ix2 h s) := rfl
  rw [e, v1029_at, v1022_at]

/-- What the vectors shared by the heads hold. -/
theorem facts  (hok : ∀ h, Ok (x0 (ix1 h)) (dth x3 h)) (hx : ∀ h s, Small (mX (xh x2 h) s))
    (hb : Small (mB (bh x4))) (hc : Small (mB (bh x5))) :
    Facts (fun h => x0 (ix1 h)) (xh x2) (dth x3) (bh x4) (bh x5) (kernelRun0_A.sl.v1020 c arg4 harg4 arg18 x2)
      (k0_pay218 (kernelRun0_A.sl.v1022 c arg5 harg5 x3) kernelRun0_A.sl.v1028 (kernelRun0_A.sl.v1029 c arg2 harg2 arg16 x0))
      (k0_pay219 (kernelRun0_A.sl.v159 c arg7 harg7 x5) (kernelRun0_A.sl.v1022 c arg5 harg5 x3) kernelRun0_A.sl.v1028 (kernelRun0_A.sl.v1029 c arg2 harg2 arg16 x0))
      (k0_pay220 (kernelRun0_A.sl.v80 c arg6 harg6 x4) (kernelRun0_A.sl.v1009 c arg4 harg4 arg18 x2) (kernelRun0_A.sl.v1022 c arg5 harg5 x3) kernelRun0_A.sl.v1028 (kernelRun0_A.sl.v1029 c arg2 harg2 arg16 x0))
      (k0_pay221 (kernelRun0_A.sl.v1022 c arg5 harg5 x3) kernelRun0_A.sl.v1028 (kernelRun0_A.sl.v1029 c arg2 harg2 arg16 x0))
      (k0_pay222 (kernelRun0_A.sl.r_82 c arg2 harg2 arg5 harg5 arg16 x0 x3) (kernelRun0_A.sl.r_83 c arg4 harg4 arg5 harg5 arg18 x2 x3))
      (kernelRun0_A.sl.v218 c arg6 harg6 arg7 harg7 x4 x5) (kernelRun0_A.sl.v174 c arg6 harg6 x4) (kernelRun0_A.sl.v184 c arg7 harg7 x5) :=
  mkFacts (w := mulf (kernelRun0_A.sl.v1029 c arg2 harg2 arg16 x0) (kernelRun0_A.sl.v1022 c arg5 harg5 x3)) hok v1030_at v1022_at (v1009_at hx) (v1020_at hx) (v80_at hb) (v159_at hc)
    (v174_at hb) (v184_at hc)

end Cert.Ssd.A
-- ==== Proof.BlockA.lean ====
module

public import proofs.«01_k».proof.Proof.SharedA
public import proofs.«01_k».proof.Proof.Gen.KernelIdeal.Frame

/-!
What the first chunk leaves in the blocks of the results.
-/

@[expose] public section

set_option maxRecDepth 16384

noncomputable section

open Idealize.ShloMosaic Idealize.ShloMosaic.TcCoe Idealize.SL.Sem
open Cert.KernelIdeal Cert.KernelIdeal.Gen

namespace Cert.Ssd.A

variable (c : Dev nD) (i : grid0.Coords) (arg2 : Memref sig .tc .smem S80 .f32) (harg2 : arg2.IsWhole) (arg3 : Memref sig .tc .smem S80 .f32) (harg3 : arg3.IsWhole) (arg4 : Memref sig .tc .vmem S1x80x64x256 .bf16) (harg4 : arg4.IsWhole) (arg5 : Memref sig .tc .vmem S1x80x256 .f32) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x80x64x256 .bf16) (harg8 : arg8.IsWhole) (arg9 : Memref sig .tc .vmem S1x80x64x128 .f32) (harg9 : arg9.IsWhole) (arg10 : Memref sig .tc .vmem S1x80x64x256 .fp8e4m3) (harg10 : arg10.IsWhole) (arg11 : Memref sig .tc .vmem S1x80x256 .f32) (harg11 : arg11.IsWhole) (arg12 : Memref sig .tc .vmem S1x256x128 .fp8e4m3) (harg12 : arg12.IsWhole) (arg13 : Memref sig .tc .vmem S1x1x10 .f32) (harg13 : arg13.IsWhole) (arg14 : Memref sig .tc .vmem S1x256x128 .fp8e4m3) (harg14 : arg14.IsWhole) (arg15 : Memref sig .tc .vmem S1x1x10 .f32) (harg15 : arg15.IsWhole) (arg16 : Memref sig .tc .vmem S80x256 .f32) (harg16 : arg16.IsWhole) (arg17 : Memref sig .tc .vmem S256x256 .f32) (harg17 : arg17.IsWhole) (arg18 : Memref sig .tc .vmem S80x256 .f32) (harg18 : arg18.IsWhole) (arg19 : Memref sig .tc .vmem S80x256 .f32) (harg19 : arg19.IsWhole) (arg20 : Memref sig .tc .vmem S80x256 .f32) (harg20 : arg20.IsWhole) (arg21 : Memref sig .tc .vmem S80x256 .f32) (harg21 : arg21.IsWhole) (arg22 : Memref sig .tc .vmem S80x128 .f32) (harg22 : arg22.IsWhole) (arg23 : Memref sig .tc .vmem S256x80 .f32) (harg23 : arg23.IsWhole) (hc0 : cond0_0 i)
  (x0 : Vec Ideal S80 .f32) (x1 : Vec Ideal S80 .f32) (x2 : Vec Ideal S1x80x64x256 .bf16) (x3 : Vec Ideal S1x80x256 .f32) (x4 : Vec Ideal S1x256x128 .bf16) (x5 : Vec Ideal S1x256x128 .bf16)

theorem v194_at {c : Dev nD} {arg13 : Memref sig .tc .vmem S1x1x10 .f32} (k : Fin 10) : kernelRun0_A.sl.v194 (F := Ideal) c arg13 (ix3 0 0 k) = (0 : EReal) := by
  refine (covWhole _ _ off3 _ _ _ _).trans ?_
  exact Ideal.ofBits_zero .f32

theorem v204_at {c : Dev nD} {arg13 : Memref sig .tc .vmem S1x1x10 .f32} (k : Fin 10) : kernelRun0_A.sl.v204 (F := Ideal) c arg13 (ix3 0 0 k) = (0 : EReal) := by
  refine (covWhole _ _ off3 _ _ _ _).trans ?_
  exact Ideal.ofBits_zero .f32

theorem y_at (hg : Good (fun h => x0 (ix1 h)) x2 x3 x4 x5) (j : S1x80x64x256.Idx) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 j
      = yBlk (fun h => x0 (ix1 h)) (fun h => x1 (ix1 h)) (xh x2) (dth x3) (bh x4) (bh x5) (fun _ _ _ => 0) j := by
  refine (congrFun (View.read_writes_junk_eq_canon _ _) j).trans ?_
  refine View.canon_apply_of_pieces _ _ ?_ j (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 j)
  unfold kernelRun0_A
  dsimp only
  have F := facts (c := c) (harg4 := harg4) (harg5 := harg5) (harg6 := harg6) (harg7 := harg7) (arg2 := arg2) (harg2 := harg2) (x0 := x0) (arg16 := arg16) (arg18 := arg18) hg.ok hg.x hg.b hg.c
  repeat refine consY (F.yA _ _ _ (by norm_num) (by norm_num) (by norm_num) (by norm_num) (Zr.of (by sl_kernel_rfl) ⟨by decide, by sl_kernel_rfl⟩) (fun h => rfl)) ?_
  exact consNil

theorem h_at (hg : Good (fun h => x0 (ix1 h)) x2 x3 x4 x5) (j : S1x80x64x128.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 j
      = hBlk (fun h => x0 (ix1 h)) (xh x2) (dth x3) (bh x4) (fun _ _ _ => 0) j := by
  refine (congrFun (View.read_writes_junk_eq_canon _ _) j).trans ?_
  refine (show Rows (hBlk (fun h => x0 (ix1 h)) (xh x2) (dth x3) (bh x4) (fun _ _ _ => 0)) _ 80 from ?_) j (j 1).isLt
  have F := facts (c := c) (harg4 := harg4) (harg5 := harg5) (harg6 := harg6) (harg7 := harg7) (arg2 := arg2) (harg2 := harg2) (x0 := x0) (arg16 := arg16) (arg18 := arg18) hg.ok hg.x hg.b hg.c
  unfold kernelRun0_A
  dsimp only
  repeat refine Rows.cons (F.hA _ _ _ (by norm_num) (by norm_num) (by norm_num) (by norm_num) (Zr.of (by sl_kernel_rfl) ⟨by decide, by sl_kernel_rfl⟩)) ?_
  exact Rows.zero

theorem xc_at (hg : Good (fun h => x0 (ix1 h)) x2 x3 x4 x5) (j : S1x80x64x256.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 j
      = xcBlk (xh x2) j := by
  refine (congrFun (View.read_writes_junk_eq_canon _ _) j).trans ?_
  refine View.canon_apply_of_pieces _ _ ?_ j (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 j)
  have F := facts (c := c) (harg4 := harg4) (harg5 := harg5) (harg6 := harg6) (harg7 := harg7) (arg2 := arg2) (harg2 := harg2) (x0 := x0) (arg16 := arg16) (arg18 := arg18) hg.ok hg.x hg.b hg.c
  unfold kernelRun0_A
  dsimp only
  repeat refine consX (F.xc _ (by norm_num)) ?_
  exact consNil

theorem xs_at (hg : Good (fun h => x0 (ix1 h)) x2 x3 x4 x5) (h : Fin 80) (s : Fin 256) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix3 0 h s) = sX (xh x2 h) s := by
  refine (congrFun (View.read_writes_junk_eq_canon _ _) _).trans ?_
  unfold kernelRun0_A
  dsimp only
  refine (congrFun (View.canon_cons_unit_lit (S := S1x80x256) _ _ _ (by decide)) _).trans ?_
  exact (show kernelRun0_A.sl.v1017 c arg4 harg4 arg18 x2 (ix3 0 h s) = kernelRun0_A.sl.v1009 c arg4 harg4 arg18 x2 (ix2 h s) by unfold kernelRun0_A.sl.v1017; pointwise []).trans (v1009_at hg.x h s)

theorem bc_at (hg : Good (fun h => x0 (ix1 h)) x2 x3 x4 x5) (s : Fin 256) (n : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix3 0 s n) = qB (bh x4) s n := by
  refine (congrFun (View.read_writes_junk_eq_canon _ _) _).trans ?_
  unfold kernelRun0_A
  dsimp only
  refine (congrFun (View.canon_cons_unit_lit (S := S1x256x128) _ _ _ (by decide)) _).trans ?_
  exact (show kernelRun0_A.sl.v187 c arg6 harg6 x4 (ix3 0 s n) = kernelRun0_A.sl.v174 c arg6 harg6 x4 (ix2 s n) by unfold kernelRun0_A.sl.v187; pointwise []).trans (v174_at hg.b s n)

theorem cc_at (hg : Good (fun h => x0 (ix1 h)) x2 x3 x4 x5) (s : Fin 256) (n : Fin 128) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix3 0 s n) = qB (bh x5) s n := by
  refine (congrFun (View.read_writes_junk_eq_canon _ _) _).trans ?_
  unfold kernelRun0_A
  dsimp only
  refine (congrFun (View.canon_cons_unit_lit (S := S1x256x128) _ _ _ (by decide)) _).trans ?_
  exact (show kernelRun0_A.sl.v190 c arg7 harg7 x5 (ix3 0 s n) = kernelRun0_A.sl.v184 c arg7 harg7 x5 (ix2 s n) by unfold kernelRun0_A.sl.v190; pointwise []).trans (v184_at hg.c s n)

theorem bs_at (hg : Good (fun h => x0 (ix1 h)) x2 x3 x4 x5) (k : Fin 10) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix3 0 0 k) = if k.val = (i 1).val then sB (bh x4) else 0 := by
  refine (congrFun (View.read_writes_junk_eq_canon _ _) _).trans ?_
  unfold kernelRun0_A
  dsimp only
  refine (congrFun (View.canon_cons_unit_lit (S := S1x1x10) _ _ _ (by decide)) _).trans ?_
  refine (show _ = kLane (BitVec.ofNat 32 (i 1).val) (kernelRun0_A.sl.v80 c arg6 harg6 x4) (kernelRun0_A.sl.v194 (F := Ideal) c arg13) (ix3 0 0 k) from rfl).trans ?_
  rw [kLane_at _ (i 1).isLt, v80_at hg.b, v194_at]

theorem cs_at (hg : Good (fun h => x0 (ix1 h)) x2 x3 x4 x5) (k : Fin 10) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix3 0 0 k) = if k.val = (i 1).val then sB (bh x5) else 0 := by
  refine (congrFun (View.read_writes_junk_eq_canon _ _) _).trans ?_
  unfold kernelRun0_A
  dsimp only
  refine (congrFun (View.canon_cons_unit_lit (S := S1x1x10) _ _ _ (by decide)) _).trans ?_
  refine (show _ = kLane (BitVec.ofNat 32 (i 1).val) (kernelRun0_A.sl.v159 c arg7 harg7 x5) (kernelRun0_A.sl.v204 (F := Ideal) c arg15) (ix3 0 0 k) from rfl).trans ?_
  rw [kLane_at _ (i 1).isLt, v159_at hg.c, v204_at]

theorem ac_at (h : Fin 80) (s : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix2 h s) = x0 (ix1 h) := by
  refine (congrFun (View.read_writes_junk_eq_canon _ _) _).trans ?_
  refine View.canon_apply_of_pieces (acBlk (fun h => x0 (ix1 h))) _ ?_ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 (ix2 h s))
  unfold kernelRun0_A
  dsimp only
  unfold kernelRun0_A.sl.HS0_80
  repeat refine consRow (acRow (arg2 := arg2) (harg2 := harg2) _ (by norm_num)) ?_
  exact consNil

end Cert.Ssd.A
-- ==== Proof.SharedB.lean ====
module

public import proofs.«01_k».proof.Proof.Head
public import proofs.«01_k».proof.Proof.Gen.KernelIdeal.Frame

/-!
The vectors the heads share, at a chunk after the first.
-/

@[expose] public section

set_option maxRecDepth 16384

noncomputable section

open Idealize.ShloMosaic Idealize.ShloMosaic.TcCoe Idealize.SL.Sem
open Cert.KernelIdeal Cert.KernelIdeal.Gen

namespace Cert.Ssd.B

variable {c : Dev nD} {arg4 : Memref sig .tc .vmem S1x80x64x256 .bf16} {harg4 : arg4.IsWhole} {arg5 : Memref sig .tc .vmem S1x80x256 .f32} {harg5 : arg5.IsWhole}
  {arg6 : Memref sig .tc .vmem S1x256x128 .bf16} {harg6 : arg6.IsWhole} {arg7 : Memref sig .tc .vmem S1x256x128 .bf16} {harg7 : arg7.IsWhole}
  {arg16 : Memref sig .tc .vmem S80x256 .f32} {harg16 : arg16.IsWhole} {arg18 : Memref sig .tc .vmem S80x256 .f32}
  {x2 : Vec Ideal S1x80x64x256 .bf16} {x3 : Vec Ideal S1x80x256 .f32} {x4 x5 : Vec Ideal S1x256x128 .bf16} {xs0 : Vec Ideal S80x256 .f32}

theorem v80_eq (i : S1x1.Idx) : kernelRun0_B.sl.v80 c arg6 harg6 x4 i = kscl (kernelRun0_B.sl.v14 c arg6 harg6 x4 i) :=
  kscl_steps (e0 := kernelRun0_B.sl.v15) (k0 := kernelRun0_B.sl.v16) (r := kernelRun0_B.sl.v14 c arg6 harg6 x4) (e1 := kernelRun0_B.sl.v22 c arg6 harg6 x4) (e2 := kernelRun0_B.sl.v29 c arg6 harg6 x4) (e3 := kernelRun0_B.sl.v36 c arg6 harg6 x4) (e4 := kernelRun0_B.sl.v43 c arg6 harg6 x4) (e5 := kernelRun0_B.sl.v50 c arg6 harg6 x4) (e6 := kernelRun0_B.sl.v57 c arg6 harg6 x4) (e7 := kernelRun0_B.sl.v64 c arg6 harg6 x4) (e8 := kernelRun0_B.sl.v71 c arg6 harg6 x4)
    (f := kernelRun0_B.sl.v75 c arg6 harg6 x4) rfl rfl rfl rfl rfl rfl rfl rfl rfl rfl rfl rfl i

theorem v85_eq (i : S1x1.Idx) : kernelRun0_B.sl.v85 c arg6 harg6 x4 i = kisc (kernelRun0_B.sl.v14 c arg6 harg6 x4 i) :=
  kisc_steps (e0 := kernelRun0_B.sl.v15) (k0 := kernelRun0_B.sl.v16) (r := kernelRun0_B.sl.v14 c arg6 harg6 x4) (e1 := kernelRun0_B.sl.v22 c arg6 harg6 x4) (e2 := kernelRun0_B.sl.v29 c arg6 harg6 x4) (e3 := kernelRun0_B.sl.v36 c arg6 harg6 x4) (e4 := kernelRun0_B.sl.v43 c arg6 harg6 x4) (e5 := kernelRun0_B.sl.v50 c arg6 harg6 x4) (e6 := kernelRun0_B.sl.v57 c arg6 harg6 x4) (e7 := kernelRun0_B.sl.v64 c arg6 harg6 x4) (e8 := kernelRun0_B.sl.v71 c arg6 harg6 x4)
    (f := kernelRun0_B.sl.v75 c arg6 harg6 x4) rfl rfl rfl rfl rfl rfl rfl rfl rfl rfl rfl rfl i

theorem v159_eq (i : S1x1.Idx) : kernelRun0_B.sl.v159 c arg7 harg7 x5 i = kscl (kernelRun0_B.sl.v93 c arg7 harg7 x5 i) :=
  kscl_steps (e0 := kernelRun0_B.sl.v15) (k0 := kernelRun0_B.sl.v16) (r := kernelRun0_B.sl.v93 c arg7 harg7 x5) (e1 := kernelRun0_B.sl.v101 c arg7 harg7 x5) (e2 := kernelRun0_B.sl.v108 c arg7 harg7 x5) (e3 := kernelRun0_B.sl.v115 c arg7 harg7 x5) (e4 := kernelRun0_B.sl.v122 c arg7 harg7 x5) (e5 := kernelRun0_B.sl.v129 c arg7 harg7 x5) (e6 := kernelRun0_B.sl.v136 c arg7 harg7 x5) (e7 := kernelRun0_B.sl.v143 c arg7 harg7 x5) (e8 := kernelRun0_B.sl.v150 c arg7 harg7 x5)
    (f := kernelRun0_B.sl.v154 c arg7 harg7 x5) rfl rfl rfl rfl rfl rfl rfl rfl rfl rfl rfl rfl i

theorem v164_eq (i : S1x1.Idx) : kernelRun0_B.sl.v164 c arg7 harg7 x5 i = kisc (kernelRun0_B.sl.v93 c arg7 harg7 x5 i) :=
  kisc_steps (e0 := kernelRun0_B.sl.v15) (k0 := kernelRun0_B.sl.v16) (r := kernelRun0_B.sl.v93 c arg7 harg7 x5) (e1 := kernelRun0_B.sl.v101 c arg7 harg7 x5) (e2 := kernelRun0_B.sl.v108 c arg7 harg7 x5) (e3 := kernelRun0_B.sl.v115 c arg7 harg7 x5) (e4 := kernelRun0_B.sl.v122 c arg7 harg7 x5) (e5 := kernelRun0_B.sl.v129 c arg7 harg7 x5) (e6 := kernelRun0_B.sl.v136 c arg7 harg7 x5) (e7 := kernelRun0_B.sl.v143 c arg7 harg7 x5) (e8 := kernelRun0_B.sl.v150 c arg7 harg7 x5)
    (f := kernelRun0_B.sl.v154 c arg7 harg7 x5) rfl rfl rfl rfl rfl rfl rfl rfl rfl rfl rfl rfl i

theorem v1009_eq (i : S80x256.Idx) : kernelRun0_B.sl.v1009 c arg4 harg4 arg18 x2 i = kscl (kernelRun0_B.sl.v943 c arg4 harg4 arg18 x2 i) :=
  kscl_steps (e0 := kernelRun0_B.sl.v944) (k0 := kernelRun0_B.sl.v945) (r := kernelRun0_B.sl.v943 c arg4 harg4 arg18 x2) (e1 := kernelRun0_B.sl.v951 c arg4 harg4 arg18 x2) (e2 := kernelRun0_B.sl.v958 c arg4 harg4 arg18 x2) (e3 := kernelRun0_B.sl.v965 c arg4 harg4 arg18 x2) (e4 := kernelRun0_B.sl.v972 c arg4 harg4 arg18 x2) (e5 := kernelRun0_B.sl.v979 c arg4 harg4 arg18 x2) (e6 := kernelRun0_B.sl.v986 c arg4 harg4 arg18 x2) (e7 := kernelRun0_B.sl.v993 c arg4 harg4 arg18 x2) (e8 := kernelRun0_B.sl.v1000 c arg4 harg4 arg18 x2)
    (f := kernelRun0_B.sl.v1004 c arg4 harg4 arg18 x2) rfl rfl rfl rfl rfl rfl rfl rfl rfl rfl rfl rfl i

theorem v1014_eq (i : S80x256.Idx) : kernelRun0_B.sl.v1014 c arg4 harg4 arg18 x2 i = kisc (kernelRun0_B.sl.v943 c arg4 harg4 arg18 x2 i) :=
  kisc_steps (e0 := kernelRun0_B.sl.v944) (k0 := kernelRun0_B.sl.v945) (r := kernelRun0_B.sl.v943 c arg4 harg4 arg18 x2) (e1 := kernelRun0_B.sl.v951 c arg4 harg4 arg18 x2) (e2 := kernelRun0_B.sl.v958 c arg4 harg4 arg18 x2) (e3 := kernelRun0_B.sl.v965 c arg4 harg4 arg18 x2) (e4 := kernelRun0_B.sl.v972 c arg4 harg4 arg18 x2) (e5 := kernelRun0_B.sl.v979 c arg4 harg4 arg18 x2) (e6 := kernelRun0_B.sl.v986 c arg4 harg4 arg18 x2) (e7 := kernelRun0_B.sl.v993 c arg4 harg4 arg18 x2) (e8 := kernelRun0_B.sl.v1000 c arg4 harg4 arg18 x2)
    (f := kernelRun0_B.sl.v1004 c arg4 harg4 arg18 x2) rfl rfl rfl rfl rfl rfl rfl rfl rfl rfl rfl rfl i

theorem v80_at (hs : Small (mB (bh x4))) : kernelRun0_B.sl.v80 c arg6 harg6 x4 (ix2 0 0) = sB (bh x4) := by
  rw [v80_eq]
  have e : kernelRun0_B.sl.v14 c arg6 harg6 x4 = kAmaxB (View.readAt (Elt Ideal) arg6.view (Rect.unit (s := S1x256x128) ![0, 0, 0] S1x256x128.size _).toLoadRect (harg6.unread x4)) := rfl
  rw [e, ldWhole harg6 x4 _ off3, kAmaxB_at, kscl_B hs]

theorem v85_at (hs : Small (mB (bh x4))) : kernelRun0_B.sl.v85 c arg6 harg6 x4 (ix2 0 0) = (isc (mB (bh x4)) : EReal) := by
  rw [v85_eq]
  have e : kernelRun0_B.sl.v14 c arg6 harg6 x4 = kAmaxB (View.readAt (Elt Ideal) arg6.view (Rect.unit (s := S1x256x128) ![0, 0, 0] S1x256x128.size _).toLoadRect (harg6.unread x4)) := rfl
  rw [e, ldWhole harg6 x4 _ off3, kAmaxB_at, kisc_B hs]

theorem v159_at (hs : Small (mB (bh x5))) : kernelRun0_B.sl.v159 c arg7 harg7 x5 (ix2 0 0) = sB (bh x5) := by
  rw [v159_eq]
  have e : kernelRun0_B.sl.v93 c arg7 harg7 x5 = kAmaxB (View.readAt (Elt Ideal) arg7.view (Rect.unit (s := S1x256x128) ![0, 0, 0] S1x256x128.size _).toLoadRect (harg7.unread x5)) := rfl
  rw [e, ldWhole harg7 x5 _ off3, kAmaxB_at, kscl_B hs]

theorem v164_at (hs : Small (mB (bh x5))) : kernelRun0_B.sl.v164 c arg7 harg7 x5 (ix2 0 0) = (isc (mB (bh x5)) : EReal) := by
  rw [v164_eq]
  have e : kernelRun0_B.sl.v93 c arg7 harg7 x5 = kAmaxB (View.readAt (Elt Ideal) arg7.view (Rect.unit (s := S1x256x128) ![0, 0, 0] S1x256x128.size _).toLoadRect (harg7.unread x5)) := rfl
  rw [e, ldWhole harg7 x5 _ off3, kAmaxB_at, kisc_B hs]

theorem v4_at (s : Fin 256) (n : Fin 128) : kernelRun0_B.sl.v4 c arg6 harg6 x4 (ix2 s n) = bh x4 s n := by
  unfold kernelRun0_B.sl.v4
  rw [ldWhole harg6 x4 _ off3]
  pointwise []
  rfl

theorem v6_at (s : Fin 256) (n : Fin 128) : kernelRun0_B.sl.v6 c arg7 harg7 x5 (ix2 s n) = bh x5 s n := by
  unfold kernelRun0_B.sl.v6
  rw [ldWhole harg7 x5 _ off3]
  pointwise []
  rfl

theorem v174_at (hs : Small (mB (bh x4))) (s : Fin 256) (n : Fin 128) : kernelRun0_B.sl.v174 c arg6 harg6 x4 (ix2 s n) = qB (bh x4) s n := by
  have e : kernelRun0_B.sl.v174 c arg6 harg6 x4 = kCodesB (kernelRun0_B.sl.v4 c arg6 harg6 x4) (kernelRun0_B.sl.v85 c arg6 harg6 x4) := rfl
  rw [e, kCodesB_at v4_at (v85_at hs)]

theorem v184_at (hs : Small (mB (bh x5))) (s : Fin 256) (n : Fin 128) : kernelRun0_B.sl.v184 c arg7 harg7 x5 (ix2 s n) = qB (bh x5) s n := by
  have e : kernelRun0_B.sl.v184 c arg7 harg7 x5 = kCodesB (kernelRun0_B.sl.v6 c arg7 harg7 x5) (kernelRun0_B.sl.v164 c arg7 harg7 x5) := rfl
  rw [e, kCodesB_at v6_at (v164_at hs)]

theorem v1022_at (h : Fin 80) (s : Fin 256) : kernelRun0_B.sl.v1022 c arg5 harg5 x3 (ix2 h s) = dth x3 h s := by
  unfold kernelRun0_B.sl.v1022
  rw [ldWhole harg5 x3 _ off3]
  pointwise []
  rfl

/-- The largest absolute value of a position, of every head. -/
theorem v941_at (h : Fin 80) (s : Fin 256) : kernelRun0_B.sl.v941 c arg4 harg4 arg18 x2 (ix2 h s) = mX (xh x2 h) s := by
  unfold kernelRun0_B.sl.v941
  rw [View.readCov_eq_canon']
  refine (View.canon_apply_of_pieces (mxBlk (xh x2)) _ ?_ _ (View.cover_of_tiledL (kernelRun0_B.sl.HS2_80 c arg4 harg4 x2) S1x256.size (by sl_kernel_rfl) _)).trans ?_
  · unfold kernelRun0_B.sl.HS2_80
    repeat refine consRow (amaxRow (arg4 := arg4) (harg4 := harg4) _ (by norm_num)) ?_
    exact consNil
  · exact congrArg (mxBlk (xh x2)) ((idx2 0 0 _ h s (by omega) (by omega)).trans (congrArg₂ ix2 (Fin.ext (Nat.zero_add _)) (Fin.ext (Nat.zero_add _))))

theorem v943_at (h : Fin 80) (s : Fin 256) : kernelRun0_B.sl.v943 c arg4 harg4 arg18 x2 (ix2 h s) = mX (xh x2 h) s * (c448 : ℝ) := by
  have e : kernelRun0_B.sl.v943 c arg4 harg4 arg18 x2 (ix2 h s)
      = (kernelRun0_B.sl.v941 c arg4 harg4 arg18 x2 (ix2 h s) : EReal) * Ideal.ofBits FTy.f32 0x3B124925#32 := rfl
  rw [e, v941_at, ofBits_c448]

theorem v1009_at (hs : ∀ h s, Small (mX (xh x2 h) s)) (h : Fin 80) (s : Fin 256) : kernelRun0_B.sl.v1009 c arg4 harg4 arg18 x2 (ix2 h s) = sX (xh x2 h) s := by
  rw [v1009_eq, v943_at, kscl_X (hs h s)]

theorem v1020_at (hs : ∀ h s, Small (mX (xh x2 h) s)) (h : Fin 80) (s : Fin 256) : kernelRun0_B.sl.v1020 c arg4 harg4 arg18 x2 (ix2 h s) = (isc (mX (xh x2 h) s) : EReal) := by
  have e0 : kernelRun0_B.sl.v1020 c arg4 harg4 arg18 x2 (ix2 h s) = kernelRun0_B.sl.v1014 c arg4 harg4 arg18 x2 (ix2 h s) := by
    unfold kernelRun0_B.sl.v1020
    pointwise []
  rw [e0, v1014_eq, v943_at, kisc_X (hs h s)]

theorem v1029_at {a : Fin 80 → EReal} (ha : ∀ h s, xs0 (ix2 h s) = a h) (h : Fin 80) (s : Fin 256) :
    (mulf (View.readAt (Elt Ideal) arg16.view (Rect.unit (s := S80x256) ![0, 0] S80x256.size inb_S80x256_S80x256_0_0).toLoadRect (harg16.unread xs0)) (kernelRun0_B.sl.v1022 c arg5 harg5 x3) : FVec Ideal S80x256 .f32) (ix2 h s) = a h * dth x3 h s := by
  have e : (mulf (View.readAt (Elt Ideal) arg16.view (Rect.unit (s := S80x256) ![0, 0] S80x256.size inb_S80x256_S80x256_0_0).toLoadRect (harg16.unread xs0)) (kernelRun0_B.sl.v1022 c arg5 harg5 x3) : FVec Ideal S80x256 .f32) (ix2 h s)
      = ((View.readAt (Elt Ideal) arg16.view (Rect.unit (s := S80x256) ![0, 0] S80x256.size inb_S80x256_S80x256_0_0).toLoadRect (harg16.unread xs0)) (ix2 h s) : EReal) * kernelRun0_B.sl.v1022 c arg5 harg5 x3 (ix2 h s) := rfl
  rw [e, ldWhole harg16 xs0 _ off2, ha, v1022_at]

/-- What the vectors shared by the heads hold. -/
theorem facts {a : Fin 80 → EReal} (ha : ∀ h s, xs0 (ix2 h s) = a h) (hok : ∀ h, Ok (a h) (dth x3 h)) (hx : ∀ h s, Small (mX (xh x2 h) s))
    (hb : Small (mB (bh x4))) (hc : Small (mB (bh x5))) :
    Facts a (xh x2) (dth x3) (bh x4) (bh x5) (kernelRun0_B.sl.v1020 c arg4 harg4 arg18 x2)
      (k0_pay218 (kernelRun0_B.sl.v1022 c arg5 harg5 x3) kernelRun0_B.sl.v1028 (View.readAt (Elt Ideal) arg16.view (Rect.unit (s := S80x256) ![0, 0] S80x256.size inb_S80x256_S80x256_0_0).toLoadRect (harg16.unread xs0)))
      (k0_pay219 (kernelRun0_B.sl.v159 c arg7 harg7 x5) (kernelRun0_B.sl.v1022 c arg5 harg5 x3) kernelRun0_B.sl.v1028 (View.readAt (Elt Ideal) arg16.view (Rect.unit (s := S80x256) ![0, 0] S80x256.size inb_S80x256_S80x256_0_0).toLoadRect (harg16.unread xs0)))
      (k0_pay220 (kernelRun0_B.sl.v80 c arg6 harg6 x4) (kernelRun0_B.sl.v1009 c arg4 harg4 arg18 x2) (kernelRun0_B.sl.v1022 c arg5 harg5 x3) kernelRun0_B.sl.v1028 (View.readAt (Elt Ideal) arg16.view (Rect.unit (s := S80x256) ![0, 0] S80x256.size inb_S80x256_S80x256_0_0).toLoadRect (harg16.unread xs0)))
      (k0_pay221 (kernelRun0_B.sl.v1022 c arg5 harg5 x3) kernelRun0_B.sl.v1028 (View.readAt (Elt Ideal) arg16.view (Rect.unit (s := S80x256) ![0, 0] S80x256.size inb_S80x256_S80x256_0_0).toLoadRect (harg16.unread xs0)))
      (k0_pay222 (kernelRun0_B.sl.r_2 c arg5 harg5 arg16 harg16 x3 xs0) (kernelRun0_B.sl.r_3 c arg4 harg4 arg5 harg5 arg18 x2 x3))
      (kernelRun0_B.sl.v218 c arg6 harg6 arg7 harg7 x4 x5) (kernelRun0_B.sl.v174 c arg6 harg6 x4) (kernelRun0_B.sl.v184 c arg7 harg7 x5) :=
  mkFacts (w := mulf (View.readAt (Elt Ideal) arg16.view (Rect.unit (s := S80x256) ![0, 0] S80x256.size inb_S80x256_S80x256_0_0).toLoadRect (harg16.unread xs0)) (kernelRun0_B.sl.v1022 c arg5 harg5 x3)) hok (v1029_at ha) v1022_at (v1009_at hx) (v1020_at hx) (v80_at hb) (v159_at hc)
    (v174_at hb) (v184_at hc)

end Cert.Ssd.B
-- ==== Proof.BlockB.lean ====
module

public import proofs.«01_k».proof.Proof.SharedB
public import proofs.«01_k».proof.Proof.Gen.KernelIdeal.Frame

/-!
What a chunk after the first leaves in the blocks of the results.
-/

@[expose] public section

set_option maxRecDepth 16384

noncomputable section

open Idealize.ShloMosaic Idealize.ShloMosaic.TcCoe Idealize.SL.Sem
open Cert.KernelIdeal Cert.KernelIdeal.Gen

namespace Cert.Ssd.B

variable (c : Dev nD) (i : grid0.Coords) (arg2 : Memref sig .tc .smem S80 .f32) (harg2 : arg2.IsWhole) (arg3 : Memref sig .tc .smem S80 .f32) (harg3 : arg3.IsWhole) (arg4 : Memref sig .tc .vmem S1x80x64x256 .bf16) (harg4 : arg4.IsWhole) (arg5 : Memref sig .tc .vmem S1x80x256 .f32) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x80x64x256 .bf16) (harg8 : arg8.IsWhole) (arg9 : Memref sig .tc .vmem S1x80x64x128 .f32) (harg9 : arg9.IsWhole) (arg10 : Memref sig .tc .vmem S1x80x64x256 .fp8e4m3) (harg10 : arg10.IsWhole) (arg11 : Memref sig .tc .vmem S1x80x256 .f32) (harg11 : arg11.IsWhole) (arg12 : Memref sig .tc .vmem S1x256x128 .fp8e4m3) (harg12 : arg12.IsWhole) (arg13 : Memref sig .tc .vmem S1x1x10 .f32) (harg13 : arg13.IsWhole) (arg14 : Memref sig .tc .vmem S1x256x128 .fp8e4m3) (harg14 : arg14.IsWhole) (arg15 : Memref sig .tc .vmem S1x1x10 .f32) (harg15 : arg15.IsWhole) (arg16 : Memref sig .tc .vmem S80x256 .f32) (harg16 : arg16.IsWhole) (arg17 : Memref sig .tc .vmem S256x256 .f32) (harg17 : arg17.IsWhole) (arg18 : Memref sig .tc .vmem S80x256 .f32) (harg18 : arg18.IsWhole) (arg19 : Memref sig .tc .vmem S80x256 .f32) (harg19 : arg19.IsWhole) (arg20 : Memref sig .tc .vmem S80x256 .f32) (harg20 : arg20.IsWhole) (arg21 : Memref sig .tc .vmem S80x256 .f32) (harg21 : arg21.IsWhole) (arg22 : Memref sig .tc .vmem S80x128 .f32) (harg22 : arg22.IsWhole) (arg23 : Memref sig .tc .vmem S256x80 .f32) (harg23 : arg23.IsWhole) (hc0 : ¬cond0_0 i)
  (x0 : Vec Ideal S80 .f32) (x1 : Vec Ideal S80 .f32) (x2 : Vec Ideal S1x80x64x256 .bf16) (x3 : Vec Ideal S1x80x256 .f32) (x4 : Vec Ideal S1x256x128 .bf16) (x5 : Vec Ideal S1x256x128 .bf16)
  (xo7 : Vec Ideal S1x80x64x128 .f32) (xo11 : Vec Ideal S1x1x10 .f32) (xo13 : Vec Ideal S1x1x10 .f32) (xs0 : Vec Ideal S80x256 .f32)

theorem y_at {a : Fin 80 → EReal} (ha : ∀ h s, xs0 (ix2 h s) = a h) (hg : Good a x2 x3 x4 x5) (j : S1x80x64x256.Idx) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j
      = yBlk a (fun h => x1 (ix1 h)) (xh x2) (dth x3) (bh x4) (bh x5) (hh xo7) j := by
  refine (congrFun (View.read_writes_junk_eq_canon _ _) j).trans ?_
  refine View.canon_apply_of_pieces _ _ ?_ j (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j)
  unfold kernelRun0_B
  dsimp only
  have F := facts (c := c) (harg4 := harg4) (harg5 := harg5) (harg6 := harg6) (harg7 := harg7) (harg16 := harg16) (arg18 := arg18) ha hg.ok hg.x hg.b hg.c
  repeat refine consY (F.yB _ _ _ (by norm_num) (by norm_num) (by norm_num) (by norm_num) (fun h => rfl)) ?_
  exact consNil

theorem h_at {a : Fin 80 → EReal} (ha : ∀ h s, xs0 (ix2 h s) = a h) (hg : Good a x2 x3 x4 x5) (j : S1x80x64x128.Idx) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j
      = hBlk a (xh x2) (dth x3) (bh x4) (hh xo7) j := by
  refine (congrFun (View.read_writes_junk_eq_canon _ _) j).trans ?_
  refine View.canon_apply_of_pieces _ _ ?_ j (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j)
  have F := facts (c := c) (harg4 := harg4) (harg5 := harg5) (harg6 := harg6) (harg7 := harg7) (harg16 := harg16) (arg18 := arg18) ha hg.ok hg.x hg.b hg.c
  unfold kernelRun0_B
  dsimp only
  repeat refine consH (F.hB _ _ _ (by norm_num) (by norm_num) (by norm_num) (by norm_num)) ?_
  exact consNil

theorem xc_at {a : Fin 80 → EReal} (ha : ∀ h s, xs0 (ix2 h s) = a h) (hg : Good a x2 x3 x4 x5) (j : S1x80x64x256.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j
      = xcBlk (xh x2) j := by
  refine (congrFun (View.read_writes_junk_eq_canon _ _) j).trans ?_
  refine View.canon_apply_of_pieces _ _ ?_ j (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 j)
  have F := facts (c := c) (harg4 := harg4) (harg5 := harg5) (harg6 := harg6) (harg7 := harg7) (harg16 := harg16) (arg18 := arg18) ha hg.ok hg.x hg.b hg.c
  unfold kernelRun0_B
  dsimp only
  repeat refine consX (F.xc _ (by norm_num)) ?_
  exact consNil

theorem xs_at {a : Fin 80 → EReal} (hg : Good a x2 x3 x4 x5) (h : Fin 80) (s : Fin 256) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 (ix3 0 h s) = sX (xh x2 h) s := by
  refine (congrFun (View.read_writes_junk_eq_canon _ _) _).trans ?_
  unfold kernelRun0_B
  dsimp only
  refine (congrFun (View.canon_cons_unit_lit (S := S1x80x256) _ _ _ (by decide)) _).trans ?_
  exact (show kernelRun0_B.sl.v1017 c arg4 harg4 arg18 x2 (ix3 0 h s) = kernelRun0_B.sl.v1009 c arg4 harg4 arg18 x2 (ix2 h s) by unfold kernelRun0_B.sl.v1017; pointwise []).trans (v1009_at hg.x h s)

theorem bc_at {a : Fin 80 → EReal} (hg : Good a x2 x3 x4 x5) (s : Fin 256) (n : Fin 128) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 (ix3 0 s n) = qB (bh x4) s n := by
  refine (congrFun (View.read_writes_junk_eq_canon _ _) _).trans ?_
  unfold kernelRun0_B
  dsimp only
  refine (congrFun (View.canon_cons_unit_lit (S := S1x256x128) _ _ _ (by decide)) _).trans ?_
  exact (show kernelRun0_B.sl.v187 c arg6 harg6 x4 (ix3 0 s n) = kernelRun0_B.sl.v174 c arg6 harg6 x4 (ix2 s n) by unfold kernelRun0_B.sl.v187; pointwise []).trans (v174_at hg.b s n)

theorem cc_at {a : Fin 80 → EReal} (hg : Good a x2 x3 x4 x5) (s : Fin 256) (n : Fin 128) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 (ix3 0 s n) = qB (bh x5) s n := by
  refine (congrFun (View.read_writes_junk_eq_canon _ _) _).trans ?_
  unfold kernelRun0_B
  dsimp only
  refine (congrFun (View.canon_cons_unit_lit (S := S1x256x128) _ _ _ (by decide)) _).trans ?_
  exact (show kernelRun0_B.sl.v190 c arg7 harg7 x5 (ix3 0 s n) = kernelRun0_B.sl.v184 c arg7 harg7 x5 (ix2 s n) by unfold kernelRun0_B.sl.v190; pointwise []).trans (v184_at hg.c s n)

theorem bs_at {a : Fin 80 → EReal} (hg : Good a x2 x3 x4 x5) (k : Fin 10) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 (ix3 0 0 k) = if k.val = (i 1).val then sB (bh x4) else xo11 (ix3 0 0 k) := by
  refine (congrFun (View.read_writes_junk_eq_canon _ _) _).trans ?_
  unfold kernelRun0_B
  dsimp only
  refine (congrFun (View.canon_cons_unit_lit (S := S1x1x10) _ _ _ (by decide)) _).trans ?_
  refine (show _ = kLane (BitVec.ofNat 32 (i 1).val) (kernelRun0_B.sl.v80 c arg6 harg6 x4) (View.readAt (Elt Ideal) arg13.view (Rect.unit (s := S1x1x10) ![0, 0, 0] S1x1x10.size (by decide)).toLoadRect (harg13.unread xo11)) (ix3 0 0 k) from rfl).trans ?_
  rw [kLane_at _ (i 1).isLt, v80_at hg.b, ldWhole harg13 xo11 _ off3]

theorem cs_at {a : Fin 80 → EReal} (hg : Good a x2 x3 x4 x5) (k : Fin 10) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 xo7 xo11 xo13 xs0 (ix3 0 0 k) = if k.val = (i 1).val then sB (bh x5) else xo13 (ix3 0 0 k) := by
  refine (congrFun (View.read_writes_junk_eq_canon _ _) _).trans ?_
  unfold kernelRun0_B
  dsimp only
  refine (congrFun (View.canon_cons_unit_lit (S := S1x1x10) _ _ _ (by decide)) _).trans ?_
  refine (show _ = kLane (BitVec.ofNat 32 (i 1).val) (kernelRun0_B.sl.v159 c arg7 harg7 x5) (View.readAt (Elt Ideal) arg15.view (Rect.unit (s := S1x1x10) ![0, 0, 0] S1x1x10.size (by decide)).toLoadRect (harg15.unread xo13)) (ix3 0 0 k) from rfl).trans ?_
  rw [kLane_at _ (i 1).isLt, v159_at hg.c, ldWhole harg15 xo13 _ off3]

end Cert.Ssd.B
-- ==== Proof.Fold.lean ====
module

public import proofs.«01_k».proof.Proof.Arrays
public import proofs.«01_k».proof.Proof.BlockA
public import proofs.«01_k».proof.Proof.BlockB

/-!
What the blocks of the results hold after every point of the grid.
-/

@[expose] public section

set_option maxRecDepth 16384

noncomputable section

open Idealize.ShloMosaic Idealize.ShloMosaic.TcCoe Idealize.SL.Sem
open Cert.KernelIdeal Cert.KernelIdeal.Gen

namespace Cert.Ssd

/-- The blocks of the results and the scratch that is kept from point to point. -/
abbrev Outs := Vec Ideal S1x80x64x256 .bf16 × Vec Ideal S1x80x64x128 .f32 × Vec Ideal S1x80x64x256 .fp8e4m3 × Vec Ideal S1x80x256 .f32
  × Vec Ideal S1x256x128 .fp8e4m3 × Vec Ideal S1x1x10 .f32 × Vec Ideal S1x256x128 .fp8e4m3 × Vec Ideal S1x1x10 .f32 × Vec Ideal S80x256 .f32

/-- What they hold after chunk `k` of batch `n`. -/
structure Inv (I : Inp) (n : Fin 4) (k : Fin 10) (o : Outs) : Prop where
  y : ∀ h p s, o.1 (ix4 0 h p s) = I.y n k h p s
  st : ∀ h p l, o.2.1 (ix4 0 h p l) = I.st n (k.val + 1) h p l
  xc : ∀ h p s, o.2.2.1 (ix4 0 h p s) = qX (I.xc n k h) p s
  xs : ∀ h s, o.2.2.2.1 (ix3 0 h s) = sX (I.xc n k h) s
  bc : ∀ s l, o.2.2.2.2.1 (ix3 0 s l) = qB (I.bc n k) s l
  bs : ∀ j : Fin 10, o.2.2.2.2.2.1 (ix3 0 0 j) = if j.val ≤ k.val then sB (I.bc n j) else 0
  cc : ∀ s l, o.2.2.2.2.2.2.1 (ix3 0 s l) = qB (I.cc n k) s l
  cs : ∀ j : Fin 10, o.2.2.2.2.2.2.2.1 (ix3 0 0 j) = if j.val ≤ k.val then sB (I.cc n j) else 0
  ac : ∀ h s, o.2.2.2.2.2.2.2.2 (ix2 h s) = I.a h

variable (m : (ℓ : Loc nD τ sig) → Buf (Elt Ideal) ℓ) (c : Dev nD) (t : Fin cfg0.N)

variable {m c} in
/-- The blocks of a point are good inputs of one chunk. -/
theorem good (hf : (inp m c).Fine) : Good (inp m c).a (iblk m c 2 t) (iblk m c 3 t) (iblk m c 4 t) (iblk m c 5 t) where
  ok h := by rw [blk3]; exact hf.ok _ _ h
  x h s := by rw [blk2]; exact hf.x _ _ h s
  b := by rw [blk4]; exact hf.b _ _
  c := by rw [blk5]; exact hf.c _ _

theorem blk0' : (fun h => (iblk m c 0 t : Vec Ideal S80 .f32) (ix1 h)) = (inp m c).a := funext (blk0 m c t)
theorem blk1' : (fun h => (iblk m c 1 t : Vec Ideal S80 .f32) (ix1 h)) = (inp m c).d := funext (blk1 m c t)
theorem blk2' : xh (iblk m c 2 t : Vec Ideal S1x80x64x256 .bf16) = (inp m c).xc (nOf t) (kOf t) := funext (blk2 m c t)
theorem blk3' : dth (iblk m c 3 t : Vec Ideal S1x80x256 .f32) = (inp m c).dtc (nOf t) (kOf t) := funext (blk3 m c t)

variable {m c t} in
/-- At the first chunk of a batch the states start from zero. -/
theorem invA (hf : (inp m c).Fine) (h0 : t.val % 10 = 0) : Inv (inp m c) (nOf t) (kOf t) (outsAt0 m c t.val t.isLt) := by
  have hk : (kOf t).val = 0 := h0
  have hg : Good (fun h => (iblk m c 0 t : Vec Ideal S80 .f32) (ix1 h)) (iblk m c 2 t) (iblk m c 3 t) (iblk m c 4 t) (iblk m c 5 t) := by
    rw [blk0']; exact good t hf
  rw [outsAt0_A m c t h0]
  constructor <;> dsimp only
  · intro h p s
    refine (A.y_at (hg := hg) ..).trans ?_
    rw [blk0', blk1', blk2', blk3', blk4, blk5, Inp.y, hk]
    rfl
  · intro h p l
    refine (A.h_at (hg := hg) ..).trans ?_
    rw [blk0', blk2', blk3', blk4, Inp.st_succ, hk]
    rfl
  · intro h p s
    refine (A.xc_at (hg := hg) ..).trans ?_
    rw [blk2']
    rfl
  · intro h s
    refine (A.xs_at (hg := hg) ..).trans ?_
    rw [blk2']
  · intro s l
    refine (A.bc_at (hg := hg) ..).trans ?_
    rw [blk4]
  · intro j
    refine (A.bs_at (hg := hg) ..).trans ?_
    rw [blk4, coord1, h0, hk]
    by_cases hj : j.val = 0
    · rw [if_pos hj, if_pos hj.le, show j = kOf t from Fin.ext (hj.trans hk.symm)]
    · rw [if_neg hj, if_neg (by omega)]
  · intro s l
    refine (A.cc_at (hg := hg) ..).trans ?_
    rw [blk5]
  · intro j
    refine (A.cs_at (hg := hg) ..).trans ?_
    rw [blk5, coord1, h0, hk]
    by_cases hj : j.val = 0
    · rw [if_pos hj, if_pos hj.le, show j = kOf t from Fin.ext (hj.trans hk.symm)]
    · rw [if_neg hj, if_neg (by omega)]
  · intro h s
    refine (A.ac_at ..).trans ?_
    exact blk0 m c t h

variable {m c t} in
/-- At a later chunk they go on from the chunk before. -/
theorem invB (hf : (inp m c).Fine) (h0 : ¬t.val % 10 = 0) {k' : Fin 10} (hk : (kOf t).val = k'.val + 1)
    (ih : Inv (inp m c) (nOf t) k' (outsAt0 m c (t.val - 1) (Nat.lt_of_le_of_lt (Nat.sub_le _ _) t.isLt))) :
    Inv (inp m c) (nOf t) (kOf t) (outsAt0 m c t.val t.isLt) := by
  have hg := good t hf
  have hh : hh (outsAt0 m c (t.val - 1) (Nat.lt_of_le_of_lt (Nat.sub_le _ _) t.isLt)).2.1 = (inp m c).st (nOf t) (kOf t).val := by
    rw [hk]
    exact funext fun h => funext fun p => funext fun l => ih.st h p l
  rw [outsAt0_B m c t h0]
  constructor <;> dsimp only
  · intro h p s
    refine (B.y_at (ha := ih.ac) (hg := hg) ..).trans ?_
    rw [blk1', blk2', blk3', blk4, blk5, hh]
    rfl
  · intro h p l
    refine (B.h_at (ha := ih.ac) (hg := hg) ..).trans ?_
    rw [blk2', blk3', blk4, Inp.st_succ, hh]
    rfl
  · intro h p s
    refine (B.xc_at (ha := ih.ac) (hg := hg) ..).trans ?_
    rw [blk2']
    rfl
  · intro h s
    refine (B.xs_at (hg := hg) ..).trans ?_
    rw [blk2']
  · intro s l
    refine (B.bc_at (hg := hg) ..).trans ?_
    rw [blk4]
  · intro j
    refine (B.bs_at (hg := hg) ..).trans ?_
    rw [blk4, coord1, ih.bs]
    by_cases hj : j.val = t.val % 10
    · rw [if_pos hj, if_pos (show j.val ≤ (kOf t).val from hj.le), show j = kOf t from Fin.ext hj]
    · rw [if_neg hj]
      have : (kOf t).val = t.val % 10 := rfl
      exact if_congr (by omega) rfl rfl
  · intro s l
    refine (B.cc_at (hg := hg) ..).trans ?_
    rw [blk5]
  · intro j
    refine (B.cs_at (hg := hg) ..).trans ?_
    rw [blk5, coord1, ih.cs]
    by_cases hj : j.val = t.val % 10
    · rw [if_pos hj, if_pos (show j.val ≤ (kOf t).val from hj.le), show j = kOf t from Fin.ext hj]
    · rw [if_neg hj]
      have : (kOf t).val = t.val % 10 := rfl
      exact if_congr (by omega) rfl rfl
  · exact ih.ac

/-- What they hold after every point. -/
theorem inv (hf : (inp m c).Fine) : ∀ (n : ℕ) (hn : n < cfg0.N), Inv (inp m c) (nOf ⟨n, hn⟩) (kOf ⟨n, hn⟩) (outsAt0 m c n hn) := by
  intro n
  induction n with
  | zero => exact fun hn => invA (t := ⟨0, hn⟩) hf rfl
  | succ n ih =>
    intro hn
    by_cases h0 : (n + 1) % 10 = 0
    · exact invA (t := ⟨n + 1, hn⟩) hf h0
    · have e := ih (Nat.lt_of_succ_lt hn)
      have en : nOf ⟨n, Nat.lt_of_succ_lt hn⟩ = nOf ⟨n + 1, hn⟩ := Fin.ext (by show n / 10 = (n + 1) / 10; omega)
      rw [en] at e
      exact invB (t := ⟨n + 1, hn⟩) hf h0 (by show (n + 1) % 10 = n % 10 + 1; omega) e

end Cert.Ssd
-- ==== Proof.Results.lean ====
module

public import proofs.«01_k».proof.Proof.Fold

/-!
What the arrays of the results hold after the run.
-/

@[expose] public section

set_option maxRecDepth 16384

noncomputable section

open Idealize.ShloMosaic Idealize.ShloMosaic.TcCoe Idealize.SL.Sem
open Cert.KernelIdeal Cert.KernelIdeal.Gen Cert.KernelIdeal.Value

namespace Cert.Ssd

variable {m : (ℓ : Loc nD τ sig) → Buf (Elt Ideal) ℓ} {c : Dev nD}

/-- The fold at the point of batch `n` and chunk `k`. -/
theorem inv_at (hf : (inp m c).Fine) (n : Fin 4) (k : Fin 10) (q : ℕ) (hq : q = 10 * n.val + k.val) (h : q < cfg0.N) (h') :
    Inv (inp m c) n k (Pipeline.accAt (fun n h => stAt0 m c n h junk0) (stAt0 m c) 0 q h') := by
  have e := inv m c hf q h
  rw [outsAt0_sweep] at e
  have en : nOf ⟨q, h⟩ = n := Fin.ext (by show q / 10 = n.val; omega)
  have ek : kOf ⟨q, h⟩ = k := Fin.ext (by show q % 10 = k.val; omega)
  rw [en, ek] at e
  exact e

/-- The point of a batch and a chunk is on the grid. -/
theorem lt_N {q : ℕ} {n : Fin 4} {k : Fin 10} (hq : q = 10 * n.val + k.val) : q < cfg0.N := by
  have : cfg0.N = 40 := N_0
  omega

/-- The outputs. -/
theorem G6_at (hf : (inp m c).Fine) (n : Fin 4) (h : Fin 80) (p : Fin 64) (t : Fin 2560) :
    G6 m c (ix4 n h p t) = (inp m c).y n (chunk t) h p (off t) := by
  have hq : pt6Of (ix4 n h p t : S4x80x64x2560.Idx) = 10 * n.val + (chunk t).val := by
    show 10 * (n.val / 1 - 0) + 10 * (h.val / 80 - 0) + 10 * (p.val / 64 - 0) + 1 * (t.val / 256 - 0) = 10 * n.val + t.val / 256
    omega
  have hl : loc6Of (ix4 n h p t : S4x80x64x2560.Idx) = ix4 0 h p (off t) := by
    funext a
    apply Fin.ext
    fin_cases a
    · exact Nat.mod_one _
    · exact Nat.mod_eq_of_lt h.isLt
    · exact Nat.mod_eq_of_lt p.isLt
    · rfl
  refine (dif_pos (lt_N hq)).trans ?_
  rw [hl]
  exact (inv_at hf n (chunk t) _ hq (lt_N hq) _).y h p (off t)

/-- The codes of `x`. -/
theorem G8_at (hf : (inp m c).Fine) (n : Fin 4) (h : Fin 80) (p : Fin 64) (t : Fin 2560) :
    G8 m c (ix4 n h p t) = qX ((inp m c).xc n (chunk t) h) p (off t) := by
  have hq : pt8Of (ix4 n h p t : S4x80x64x2560.Idx) = 10 * n.val + (chunk t).val := by
    show 10 * (n.val / 1 - 0) + 10 * (h.val / 80 - 0) + 10 * (p.val / 64 - 0) + 1 * (t.val / 256 - 0) = 10 * n.val + t.val / 256
    omega
  have hl : loc8Of (ix4 n h p t : S4x80x64x2560.Idx) = ix4 0 h p (off t) := by
    funext a
    apply Fin.ext
    fin_cases a
    · exact Nat.mod_one _
    · exact Nat.mod_eq_of_lt h.isLt
    · exact Nat.mod_eq_of_lt p.isLt
    · rfl
  refine (dif_pos (lt_N hq)).trans ?_
  rw [hl]
  exact (inv_at hf n (chunk t) _ hq (lt_N hq) _).xc h p (off t)

/-- The last states. -/
theorem G7_at (hf : (inp m c).Fine) (n : Fin 4) (h : Fin 80) (p : Fin 64) (l : Fin 128) :
    G7 m c (ix4 n h p l) = (inp m c).st n 10 h p l := by
  have hq : pt7Of (ix4 n h p l : S4x80x64x128.Idx) = 10 * n.val + (9 : Fin 10).val := by
    show 10 * (1 * (n.val / 1 - 0) + 1 * (h.val / 80 - 0) + 1 * (p.val / 64 - 0) + 1 * (l.val / 128 - 0)) + 9 = 10 * n.val + 9
    omega
  have hl : loc7Of (ix4 n h p l : S4x80x64x128.Idx) = ix4 0 h p l := by
    funext a
    apply Fin.ext
    fin_cases a
    · exact Nat.mod_one _
    · exact Nat.mod_eq_of_lt h.isLt
    · exact Nat.mod_eq_of_lt p.isLt
    · exact Nat.mod_eq_of_lt l.isLt
  refine (dif_pos (lt_N hq)).trans ?_
  rw [hl]
  exact (inv_at hf n 9 _ hq (lt_N hq) _).st h p l

/-- The scales of `x`. -/
theorem G9_at (hf : (inp m c).Fine) (n : Fin 4) (h : Fin 80) (t : Fin 2560) :
    G9 m c (ix3 n h t) = sX ((inp m c).xc n (chunk t) h) (off t) := by
  have hq : pt9Of (ix3 n h t : S4x80x2560.Idx) = 10 * n.val + (chunk t).val := by
    show 10 * (n.val / 1 - 0) + 10 * (h.val / 80 - 0) + 1 * (t.val / 256 - 0) = 10 * n.val + t.val / 256
    omega
  have hl : loc9Of (ix3 n h t : S4x80x2560.Idx) = ix3 0 h (off t) := by
    funext a
    apply Fin.ext
    fin_cases a
    · exact Nat.mod_one _
    · exact Nat.mod_eq_of_lt h.isLt
    · rfl
  refine (dif_pos (lt_N hq)).trans ?_
  rw [hl]
  exact (inv_at hf n (chunk t) _ hq (lt_N hq) _).xs h (off t)

/-- The codes of `B`. -/
theorem G10_at (hf : (inp m c).Fine) (n : Fin 4) (t : Fin 2560) (l : Fin 128) :
    G10 m c (ix3 n t l) = qB ((inp m c).bc n (chunk t)) (off t) l := by
  have hq : pt10Of (ix3 n t l : S4x2560x128.Idx) = 10 * n.val + (chunk t).val := by
    show 10 * (n.val / 1 - 0) + 1 * (t.val / 256 - 0) + 1 * (l.val / 128 - 0) = 10 * n.val + t.val / 256
    omega
  have hl : loc10Of (ix3 n t l : S4x2560x128.Idx) = ix3 0 (off t) l := by
    funext a
    apply Fin.ext
    fin_cases a
    · exact Nat.mod_one _
    · rfl
    · exact Nat.mod_eq_of_lt l.isLt
  refine (dif_pos (lt_N hq)).trans ?_
  rw [hl]
  exact (inv_at hf n (chunk t) _ hq (lt_N hq) _).bc (off t) l

/-- The codes of `C`. -/
theorem G12_at (hf : (inp m c).Fine) (n : Fin 4) (t : Fin 2560) (l : Fin 128) :
    G12 m c (ix3 n t l) = qB ((inp m c).cc n (chunk t)) (off t) l := by
  have hq : pt12Of (ix3 n t l : S4x2560x128.Idx) = 10 * n.val + (chunk t).val := by
    show 10 * (n.val / 1 - 0) + 1 * (t.val / 256 - 0) + 1 * (l.val / 128 - 0) = 10 * n.val + t.val / 256
    omega
  have hl : loc12Of (ix3 n t l : S4x2560x128.Idx) = ix3 0 (off t) l := by
    funext a
    apply Fin.ext
    fin_cases a
    · exact Nat.mod_one _
    · rfl
    · exact Nat.mod_eq_of_lt l.isLt
  refine (dif_pos (lt_N hq)).trans ?_
  rw [hl]
  exact (inv_at hf n (chunk t) _ hq (lt_N hq) _).cc (off t) l

/-- The scales of `B`. -/
theorem G11_at (hf : (inp m c).Fine) (n : Fin 4) (k : Fin 10) :
    G11 m c (ix3 n 0 k) = sB ((inp m c).bc n k) := by
  have hq : pt11Of (ix3 n 0 k : S4x1x10.Idx) = 10 * n.val + (9 : Fin 10).val := by
    show 10 * (1 * (n.val / 1 - 0) + 1 * (0 / 1 - 0) + 1 * (k.val / 10 - 0)) + 9 = 10 * n.val + 9
    omega
  have hl : loc11Of (ix3 n 0 k : S4x1x10.Idx) = ix3 0 0 k := by
    funext a
    apply Fin.ext
    fin_cases a
    · exact Nat.mod_one _
    · rfl
    · exact Nat.mod_eq_of_lt k.isLt
  refine (dif_pos (lt_N hq)).trans ?_
  rw [hl]
  refine ((inv_at hf n 9 _ hq (lt_N hq) _).bs k).trans (if_pos ?_)
  show k.val ≤ 9
  omega

/-- The scales of `C`. -/
theorem G13_at (hf : (inp m c).Fine) (n : Fin 4) (k : Fin 10) :
    G13 m c (ix3 n 0 k) = sB ((inp m c).cc n k) := by
  have hq : pt13Of (ix3 n 0 k : S4x1x10.Idx) = 10 * n.val + (9 : Fin 10).val := by
    show 10 * (1 * (n.val / 1 - 0) + 1 * (0 / 1 - 0) + 1 * (k.val / 10 - 0)) + 9 = 10 * n.val + 9
    omega
  have hl : loc13Of (ix3 n 0 k : S4x1x10.Idx) = ix3 0 0 k := by
    funext a
    apply Fin.ext
    fin_cases a
    · exact Nat.mod_one _
    · rfl
    · exact Nat.mod_eq_of_lt k.isLt
  refine (dif_pos (lt_N hq)).trans ?_
  rw [hl]
  refine ((inv_at hf n 9 _ hq (lt_N hq) _).cs k).trans (if_pos ?_)
  show k.val ≤ 9
  omega

end Cert.Ssd
-- ==== Proof.RefWord.lean ====
module

public import proofs.«01_k».proof.Proof.Scan

/-!
The words of the reference's quantiser: its exponent, its scale and its code, for one value.
-/

@[expose] public section

noncomputable section

open Idealize.ShloMosaic

namespace Cert.Ssd.Ref

theorem ofBits_two : Ideal.ofBits .f32 0x40000000#32 = ((2 : ℝ) : EReal) := by
  have := ofBits_pow 128 (by norm_num) (by norm_num)
  rw [show IntOp.shli ArithUnit.vector (BitVec.ofNat 32 128) 23#32 = 0x40000000#32 by rfl] at this
  rw [this]; norm_num

theorem ofBits_one : Ideal.ofBits .f32 0x3F800000#32 = 1 := by
  have := ofBits_pow 127 (by norm_num) (by norm_num)
  rw [show IntOp.shli ArithUnit.vector (BitVec.ofNat 32 127) 23#32 = 0x3F800000#32 by rfl] at this
  rw [this]; norm_num

theorem ofBits_zero : Ideal.ofBits .f32 0x00000000#32 = 0 := by simp [Ideal.ofBits, Ideal.ieee]

/-- The exponent of a value, as the reference writes it. -/
theorem exp_word (r : Ideal .f32) :
    Scalar.select (FloatOps.cmpf (F := Ideal) .olt r (FloatOps.ofBits .f32 0x00800000#32)) (FloatOps.ofBits .f32 0x00000000#32)
      (FloatOps.addf (FloatOps.hostUnary .floor (FloatOps.hostDivf (FloatOps.hostUnary .log r)
        (FloatOps.hostUnary .log (FloatOps.ofBits .f32 0x40000000#32)))) (FloatOps.ofBits .f32 0x3F800000#32)) = rfexp r := by
  show Scalar.select (BitVec.ofBool (decide ((r : EReal) < Ideal.ofBits .f32 0x00800000#32))) (Ideal.ofBits .f32 0x00000000#32)
    (Ideal.liftRound Int.floor (Ideal.div (Ideal.log r) (Ideal.log (Ideal.ofBits .f32 0x40000000#32))) + Ideal.ofBits .f32 0x3F800000#32) = _
  rw [ofBits_two, ofBits_one, ofBits_zero, rfexp]
  by_cases h : (r : EReal) < Ideal.ofBits .f32 0x00800000#32
  · rw [if_pos h, decide_eq_true h]; rfl
  · rw [if_neg h, decide_eq_false h]; rfl

/-- The scale, as the reference writes it. -/
theorem scl_word (m : EReal) (h0 : 0 ≤ m) (h : Small m) :
    FloatOps.hostPowf (F := Ideal) (φ := .f32) (FloatOps.ofBits .f32 0x40000000#32) (rfexp (m * (c448 : ℝ))) = (scl m : EReal) := by
  show Ideal.pow (Ideal.ofBits .f32 0x40000000#32) (rfexp (m * (c448 : ℝ))) = _
  rw [ofBits_two, pow_rfexp m h0 h.ne]

/-- The reciprocal of the scale, as the reference writes it. -/
theorem isc_word (m : EReal) (h0 : 0 ≤ m) (h : Small m) :
    FloatOps.hostPowf (F := Ideal) (φ := .f32) (FloatOps.ofBits .f32 0x40000000#32) (FloatOps.hostNegf (F := Ideal) (φ := .f32) (rfexp (m * (c448 : ℝ))))
      = (isc m : EReal) := by
  show Ideal.pow (Ideal.ofBits .f32 0x40000000#32) (-rfexp (m * (c448 : ℝ))) = _
  rw [ofBits_two, rfexp_eq m h0 h.ne, ← EReal.coe_neg, Ideal.pow_coe_coe]
  unfold isc
  rw [← Real.rpow_intCast, Int.cast_neg]
  rfl

/-- The code, as the reference writes it. -/
theorem code_word (x m : EReal) (h0 : 0 ≤ m) (h : Small m) :
    FloatOps.minimumf (F := Ideal) (φ := .f32) (FloatOps.ofBits .f32 0x43E00000#32)
      (FloatOps.maximumf (F := Ideal) (φ := .f32) (FloatOps.ofBits .f32 0xC3E00000#32) (FloatOps.mulf (F := Ideal) (φ := .f32) x
        (FloatOps.hostPowf (F := Ideal) (φ := .f32) (FloatOps.ofBits .f32 0x40000000#32)
          (FloatOps.hostNegf (F := Ideal) (φ := .f32) (rfexp (m * (c448 : ℝ))))))) = code x m := by
  rw [isc_word m h0 h]
  rfl

theorem mulf_eq (x y : Ideal .f32) : (FloatOps.mulf x y : EReal) = (x : EReal) * y := rfl

/-- A maximum over the two axes of a chunk. -/
theorem fold_max_pair (f : Fin 256 → Fin 128 → EReal) :
    Finset.fold max ⊥ (fun q : Fin 256 × Fin 128 => f q.1 q.2) Finset.univ
      = Finset.univ.sup fun s => Finset.univ.sup fun l => f s l := by
  show Finset.univ.sup (fun q : Fin 256 × Fin 128 => f q.1 q.2) = _
  rw [← Finset.univ_product_univ, Finset.sup_product_left]

end Cert.Ssd.Ref
-- ==== Proof.RefIn.lean ====
module

public import proofs.«01_k».proof.Proof.RefWord
public import proofs.«01_k».proof.Proof.Gen.ReferenceIdeal.Read

/-!
The arrays the reference is given.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

/-- A chunk of an array of the shape of B and C. -/
def bch (y : (⟨S4x2560x1x128, .bf16⟩ : BufTy).Contents (Elt Ideal)) (n : Fin 4) (k : Fin 10) : Fin 256 → Fin 128 → EReal :=
  fun s l => y (ix4 n (pos k s) 0 l)

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (x5 : (⟨S80, .f32⟩ : BufTy).Contents (Elt Ideal))

/-- The arrays the reference is given. -/
def inp : Inp where
  x n t h p := x0 (ix4 n t h p)
  dt n t h := x1 (ix3 n t h)
  a h := x2 (ix1 h)
  b n t l := x3 (ix4 n t 0 l)
  c n t l := x4 (ix4 n t 0 l)
  d h := x5 (ix1 h)

end Cert.Ssd.Ref
-- ==== Proof.RefX.lean ====
module

public import proofs.«01_k».proof.Proof.RefIn

/-!
The reference's codes and scales of x.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x0 : (⟨S4x2560x80x64, .bf16⟩ : BufTy).Contents (Elt Ideal)) (n : Fin 4) (t : Fin 2560) (h : Fin 80)

/-- The largest absolute value of a position of a head. -/
def mt : EReal := Finset.univ.sup fun p : Fin 64 => absE (x0 (ix4 n t h p))

theorem mt_nonneg : 0 ≤ mt x0 n t h := mX_nonneg (fun p (_ : Fin 256) => x0 (ix4 n t h p)) 0

theorem v2_at : val_main_v2 (F := Ideal) x0 (ix3 n t h) = mt x0 n t h := by
  pointwise [val_main_v2, val_main_v1, val_main_v0, val_main_cst]
  rw [ofBits_ninf32]
  exact fold_max_bot _

theorem v5_at : val_main_v5 (F := Ideal) x0 (ix4 n t h 0) = mt x0 n t h * (c448 : ℝ) := by
  have hi : idx_main_v3 (ix4 n t h (0 : Fin 1)) = ix3 n t h := by
    funext a
    match a with
    | ⟨0, _⟩ => rfl
    | ⟨1, _⟩ => rfl
    | ⟨2, _⟩ => rfl
  rw [val_main_v5_apply, val_main_v4_apply, val_main_cst_0_apply, val_main_v3_apply, hi, v2_at, mulf_eq]
  exact congrArg (fun z : EReal => mt x0 n t h * z) ofBits_c448

theorem v15_at : val_main_v15 (F := Ideal) x0 (ix4 n t h 0) = rfexp (mt x0 n t h * (c448 : ℝ)) := by
  rw [val_main_v15_apply, val_main_v14_apply, val_main_v13_apply, val_main_v12_apply, val_main_v11_apply, val_main_v10_apply,
    val_main_v9_apply, val_main_v8_apply, val_main_v7_apply, val_main_v6_apply, val_main_call0_v1_apply, val_main_call0_v0_apply,
    val_main_cst_1_apply, val_main_cst_2_apply, val_main_cst_3_apply, val_main_cst_4_apply, v5_at]
  exact exp_word _

variable (hs : Small (mt x0 n t h))
include hs

theorem v22_at : val_main_v22 (F := Ideal) x0 (ix4 n t h 0) = (scl (mt x0 n t h) : EReal) := by
  rw [val_main_v22_apply, v15_at, val_main_v16_apply, val_main_cst_5_apply]
  exact scl_word _ (mt_nonneg x0 n t h) hs

theorem v21_at (p : Fin 64) : val_main_v21 (F := Ideal) x0 (ix4 n t h p) = code (x0 (ix4 n t h p)) (mt x0 n t h) := by
  have hi : idx_main_v19 (ix4 n t h p) = ix4 n t h 0 := by
    funext a
    match a with
    | ⟨0, _⟩ => rfl
    | ⟨1, _⟩ => rfl
    | ⟨2, _⟩ => rfl
    | ⟨3, _⟩ => rfl
  rw [val_main_v21_apply, val_main_call1_v4_apply, val_main_call1_v3_apply, val_main_cst_7_apply, val_main_call1_v2_apply,
    val_main_call1_v1_apply, val_main_call1_v0_apply, val_main_cst_6_apply, val_main_v20_apply, val_main_v0_apply, val_main_v19_apply, hi,
    val_main_v18_apply, val_main_v17_apply, v15_at, val_main_v16_apply, val_main_cst_5_apply]
  exact code_word _ _ (mt_nonneg x0 n t h) hs

end Cert.Ssd.Ref
-- ==== Proof.RefB.lean ====
module

public import proofs.«01_k».proof.Proof.RefIn

/-!
The reference's codes and scales of B.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x3 : (⟨S4x2560x1x128, .bf16⟩ : BufTy).Contents (Elt Ideal)) (n : Fin 4) (k : Fin 10)

theorem v24_at (s : Fin 256) (l : Fin 128) : val_main_v24 (F := Ideal) x3 (ix4 n k s l) = bch x3 n k s l := by
  rw [bch, show pos k s = ⟨k.val * 256 + s.val, by omega⟩ from Fin.ext (by show 256 * k.val + s.val = k.val * 256 + s.val; omega)]
  pointwise [val_main_v24, val_main_v23]

theorem v26_at : val_main_v26 (F := Ideal) x3 (ix2 n k) = mB (bch x3 n k) := by
  rw [mB, ← fold_max_pair]
  pointwise [val_main_v26, val_main_v25, val_main_cst_8]
  rw [ofBits_ninf32]
  exact Finset.fold_congr fun q _ => (congrArg absE (v24_at x3 n k q.1 q.2) : _)

theorem v29_at : val_main_v29 (F := Ideal) x3 (ix4 n k 0 0) = mB (bch x3 n k) * (c448 : ℝ) := by
  have hi : idx_main_v27 (ix4 n k (0 : Fin 1) (0 : Fin 1)) = ix2 n k := by
    funext a
    match a with
    | ⟨0, _⟩ => rfl
    | ⟨1, _⟩ => rfl
  rw [val_main_v29_apply, val_main_v28_apply, val_main_cst_9_apply, val_main_v27_apply, hi, v26_at, mulf_eq]
  exact congrArg (fun z : EReal => mB (bch x3 n k) * z) ofBits_c448

theorem v39_at : val_main_v39 (F := Ideal) x3 (ix4 n k 0 0) = rfexp (mB (bch x3 n k) * (c448 : ℝ)) := by
  rw [val_main_v39_apply, val_main_v38_apply, val_main_v37_apply, val_main_v36_apply, val_main_v35_apply, val_main_v34_apply, val_main_v33_apply, val_main_v32_apply, val_main_v31_apply, val_main_v30_apply,
    val_main_call2_v1_apply, val_main_call2_v0_apply, val_main_cst_10_apply, val_main_cst_11_apply, val_main_cst_12_apply, val_main_cst_13_apply, v29_at]
  exact exp_word _

variable (hs : Small (mB (bch x3 n k)))
include hs

theorem v46_at : val_main_v46 (F := Ideal) x3 (ix4 n k 0 0) = sB (bch x3 n k) := by
  rw [val_main_v46_apply, v39_at, val_main_v40_apply, val_main_cst_14_apply]
  exact scl_word _ (mB_nonneg _) hs

theorem v71_at : val_main_v71 (F := Ideal) x3 (ix2 n k) = sB (bch x3 n k) := by
  rw [← v46_at x3 n k hs]
  pointwise [val_main_v71]

theorem v45_at (s : Fin 256) (l : Fin 128) : val_main_v45 (F := Ideal) x3 (ix4 n k s l) = qB (bch x3 n k) s l := by
  have hi : idx_main_v43 (ix4 n k s l) = ix4 n k 0 0 := by
    funext a
    match a with
    | ⟨0, _⟩ => rfl
    | ⟨1, _⟩ => rfl
    | ⟨2, _⟩ => rfl
    | ⟨3, _⟩ => rfl
  rw [val_main_v45_apply, val_main_call3_v4_apply, val_main_call3_v3_apply, val_main_cst_16_apply, val_main_call3_v2_apply,
    val_main_call3_v1_apply, val_main_call3_v0_apply, val_main_cst_15_apply, val_main_v44_apply, v24_at, val_main_v43_apply, hi,
    val_main_v42_apply, val_main_v41_apply, v39_at, val_main_v40_apply, val_main_cst_14_apply]
  exact code_word _ _ (mB_nonneg _) hs

end Cert.Ssd.Ref
-- ==== Proof.RefC.lean ====
module

public import proofs.«01_k».proof.Proof.RefIn

/-!
The reference's codes and scales of C.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x4 : (⟨S4x2560x1x128, .bf16⟩ : BufTy).Contents (Elt Ideal)) (n : Fin 4) (k : Fin 10)

theorem v48_at (s : Fin 256) (l : Fin 128) : val_main_v48 (F := Ideal) x4 (ix4 n k s l) = bch x4 n k s l := by
  rw [bch, show pos k s = ⟨k.val * 256 + s.val, by omega⟩ from Fin.ext (by show 256 * k.val + s.val = k.val * 256 + s.val; omega)]
  pointwise [val_main_v48, val_main_v47]

theorem v50_at : val_main_v50 (F := Ideal) x4 (ix2 n k) = mB (bch x4 n k) := by
  rw [mB, ← fold_max_pair]
  pointwise [val_main_v50, val_main_v49, val_main_cst_17]
  rw [ofBits_ninf32]
  exact Finset.fold_congr fun q _ => (congrArg absE (v48_at x4 n k q.1 q.2) : _)

theorem v53_at : val_main_v53 (F := Ideal) x4 (ix4 n k 0 0) = mB (bch x4 n k) * (c448 : ℝ) := by
  have hi : idx_main_v51 (ix4 n k (0 : Fin 1) (0 : Fin 1)) = ix2 n k := by
    funext a
    match a with
    | ⟨0, _⟩ => rfl
    | ⟨1, _⟩ => rfl
  rw [val_main_v53_apply, val_main_v52_apply, val_main_cst_18_apply, val_main_v51_apply, hi, v50_at, mulf_eq]
  exact congrArg (fun z : EReal => mB (bch x4 n k) * z) ofBits_c448

theorem v63_at : val_main_v63 (F := Ideal) x4 (ix4 n k 0 0) = rfexp (mB (bch x4 n k) * (c448 : ℝ)) := by
  rw [val_main_v63_apply, val_main_v62_apply, val_main_v61_apply, val_main_v60_apply, val_main_v59_apply, val_main_v58_apply, val_main_v57_apply, val_main_v56_apply, val_main_v55_apply, val_main_v54_apply,
    val_main_call4_v1_apply, val_main_call4_v0_apply, val_main_cst_19_apply, val_main_cst_20_apply, val_main_cst_21_apply, val_main_cst_22_apply, v53_at]
  exact exp_word _

variable (hs : Small (mB (bch x4 n k)))
include hs

theorem v70_at : val_main_v70 (F := Ideal) x4 (ix4 n k 0 0) = sB (bch x4 n k) := by
  rw [val_main_v70_apply, v63_at, val_main_v64_apply, val_main_cst_23_apply]
  exact scl_word _ (mB_nonneg _) hs

theorem v72_at : val_main_v72 (F := Ideal) x4 (ix2 n k) = sB (bch x4 n k) := by
  rw [← v70_at x4 n k hs]
  pointwise [val_main_v72]

theorem v69_at (s : Fin 256) (l : Fin 128) : val_main_v69 (F := Ideal) x4 (ix4 n k s l) = qB (bch x4 n k) s l := by
  have hi : idx_main_v67 (ix4 n k s l) = ix4 n k 0 0 := by
    funext a
    match a with
    | ⟨0, _⟩ => rfl
    | ⟨1, _⟩ => rfl
    | ⟨2, _⟩ => rfl
    | ⟨3, _⟩ => rfl
  rw [val_main_v69_apply, val_main_call5_v4_apply, val_main_call5_v3_apply, val_main_cst_25_apply, val_main_call5_v2_apply,
    val_main_call5_v1_apply, val_main_call5_v0_apply, val_main_cst_24_apply, val_main_v68_apply, v48_at, val_main_v67_apply, hi,
    val_main_v66_apply, val_main_v65_apply, v63_at, val_main_v64_apply, val_main_cst_23_apply]
  exact code_word _ _ (mB_nonneg _) hs

end Cert.Ssd.Ref
-- ==== Proof.RefCumsum.lean ====
module

public import proofs.«01_k».proof.Proof.Scan

/-!
A running sum along the third of four axes, as jax writes it: a window of the whole axis, padded low by one less.
-/

@[expose] public section

noncomputable section

open Idealize.ShloMosaic

namespace Cert.Ssd

/-- A left fold of additions is a sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The sum over the positions of a window which fall inside the axis is the sum up to the position. -/
theorem sum_shift (f : Fin 256 → EReal) (t : Fin 256) :
    ∑ w : Fin 256, (if h : 255 ≤ t.val + w.val then f ⟨t.val + w.val - 255, by omega⟩ else 0)
      = ∑ s : Fin 256, if s ≤ t then f s else 0 := by
  let e : Fin 256 → Fin 256 := fun w => ⟨(t.val + w.val + 1) % 256, by omega⟩
  have he : Function.Bijective e := by
    refine (Fintype.bijective_iff_injective_and_card e).2 ⟨fun a b h => ?_, rfl⟩
    have := congrArg Fin.val h
    change (t.val + a.val + 1) % 256 = (t.val + b.val + 1) % 256 at this
    exact Fin.ext (by omega)
  refine Fintype.sum_bijective e he _ _ fun w => ?_
  by_cases h : 255 ≤ t.val + w.val
  · have hle : e w ≤ t := by show (t.val + w.val + 1) % 256 ≤ t.val; omega
    rw [dif_pos h, if_pos hle]
    exact congrArg f (Fin.ext (by show t.val + w.val - 255 = (t.val + w.val + 1) % 256; omega))
  · have hle : ¬ e w ≤ t := by show ¬ (t.val + w.val + 1) % 256 ≤ t.val; omega
    rw [dif_neg h, if_neg hle]

/-- jnp's `cumsum(axis=2)` of a `[4, 10, 256, 80]` array. -/
theorem cumsum4 (x : (⟨4, ![4, 10, 256, 80]⟩ : Shape).Idx → EReal)
    (h : (⟨4, ![4, 10, 256, 80]⟩ : Shape).ReduceWindows (![1, 1, 256, 1] : Fin 4 → Nat) ![1, 1, 1, 1] ![0, 0, 255, 0] ![0, 0, 0, 0]
      ⟨4, ![4, 10, 256, 80]⟩)
    (n : Fin 4) (k : Fin 10) (t : Fin 256) (c : Fin 80) :
    Ideal.hostReduceWindowAdd ![1, 1, 256, 1] ![1, 1, 1, 1] ![0, 0, 255, 0] ![0, 0, 0, 0] h x 0 (ix4 n k t c)
      = ∑ s : Fin 256, if s ≤ t then x (ix4 n k s c) else 0 := by
  unfold Ideal.hostReduceWindowAdd Host.reduceWindow
  refine (foldl_add _ _ _).trans ?_
  rw [zero_add, ← Fin.sum_univ_def]
  rw [← sum_shift (fun s => x (ix4 n k s c)) t]
  have hn := n.isLt
  have hk := k.isLt
  have ht := t.isLt
  have hc := c.isLt
  let g : (⟨4, ![1, 1, 256, 1]⟩ : Shape).Idx → EReal := fun w => if h : 255 ≤ t.val + (w 2).val then
    x (ix4 n k ⟨t.val + (w 2).val - 255, by have h2 : (w 2).val < 256 := (w 2).isLt; omega⟩ c) else 0
  refine (Finset.sum_congr rfl fun i _ => ?_).trans ((Equiv.sum_comp (⟨4, ![1, 1, 256, 1]⟩ : Shape).rowMajor.symm g).trans ?_)
  · have w0 : ((⟨4, ![1, 1, 256, 1]⟩ : Shape).rowMajor.symm i 0).val < 1 := ((⟨4, ![1, 1, 256, 1]⟩ : Shape).rowMajor.symm i 0).isLt
    have w1 : ((⟨4, ![1, 1, 256, 1]⟩ : Shape).rowMajor.symm i 1).val < 1 := ((⟨4, ![1, 1, 256, 1]⟩ : Shape).rowMajor.symm i 1).isLt
    have w2 : ((⟨4, ![1, 1, 256, 1]⟩ : Shape).rowMajor.symm i 2).val < 256 := ((⟨4, ![1, 1, 256, 1]⟩ : Shape).rowMajor.symm i 2).isLt
    have w3 : ((⟨4, ![1, 1, 256, 1]⟩ : Shape).rowMajor.symm i 3).val < 1 := ((⟨4, ![1, 1, 256, 1]⟩ : Shape).rowMajor.symm i 3).isLt
    by_cases h2 : 255 ≤ t.val + ((⟨4, ![1, 1, 256, 1]⟩ : Shape).rowMajor.symm i 2).val
    · rw [show g ((⟨4, ![1, 1, 256, 1]⟩ : Shape).rowMajor.symm i) = _ from dif_pos h2, dif_pos]
      · refine congrArg x (funext fun a => Fin.ext ?_)
        match a with
        | ⟨0, _⟩ => show n.val * 1 + ((⟨4, ![1, 1, 256, 1]⟩ : Shape).rowMajor.symm i 0).val - 0 = n.val; omega
        | ⟨1, _⟩ => show k.val * 1 + ((⟨4, ![1, 1, 256, 1]⟩ : Shape).rowMajor.symm i 1).val - 0 = k.val; omega
        | ⟨2, _⟩ => show t.val * 1 + ((⟨4, ![1, 1, 256, 1]⟩ : Shape).rowMajor.symm i 2).val - 255 = t.val + ((⟨4, ![1, 1, 256, 1]⟩ : Shape).rowMajor.symm i 2).val - 255; omega
        | ⟨3, _⟩ => show c.val * 1 + ((⟨4, ![1, 1, 256, 1]⟩ : Shape).rowMajor.symm i 3).val - 0 = c.val; omega
      · intro a
        match a with
        | ⟨0, _⟩ => show 0 ≤ n.val * 1 + ((⟨4, ![1, 1, 256, 1]⟩ : Shape).rowMajor.symm i 0).val ∧ n.val * 1 + ((⟨4, ![1, 1, 256, 1]⟩ : Shape).rowMajor.symm i 0).val - 0 < 4; omega
        | ⟨1, _⟩ => show 0 ≤ k.val * 1 + ((⟨4, ![1, 1, 256, 1]⟩ : Shape).rowMajor.symm i 1).val ∧ k.val * 1 + ((⟨4, ![1, 1, 256, 1]⟩ : Shape).rowMajor.symm i 1).val - 0 < 10; omega
        | ⟨2, _⟩ => show 255 ≤ t.val * 1 + ((⟨4, ![1, 1, 256, 1]⟩ : Shape).rowMajor.symm i 2).val ∧ t.val * 1 + ((⟨4, ![1, 1, 256, 1]⟩ : Shape).rowMajor.symm i 2).val - 255 < 256; omega
        | ⟨3, _⟩ => show 0 ≤ c.val * 1 + ((⟨4, ![1, 1, 256, 1]⟩ : Shape).rowMajor.symm i 3).val ∧ c.val * 1 + ((⟨4, ![1, 1, 256, 1]⟩ : Shape).rowMajor.symm i 3).val - 0 < 80; omega
    · rw [show g ((⟨4, ![1, 1, 256, 1]⟩ : Shape).rowMajor.symm i) = _ from dif_neg h2, dif_neg]
      intro hin
      have h3 := (hin 2).1
      change 255 ≤ t.val * 1 + ((⟨4, ![1, 1, 256, 1]⟩ : Shape).rowMajor.symm i 2).val at h3
      omega
  · refine (sum_idx4 g).trans ?_
    rw [Fin.sum_univ_one, Fin.sum_univ_one]
    refine Finset.sum_congr rfl fun w _ => ?_
    rw [Fin.sum_univ_one]
    rfl

end Cert.Ssd
-- ==== Proof.RefChunk.lean ====
module

public import proofs.«01_k».proof.Proof.RefX
public import proofs.«01_k».proof.Proof.RefB
public import proofs.«01_k».proof.Proof.RefC
public import proofs.«01_k».proof.Proof.RefCumsum

/-!
The reference's values cut into chunks, and the running sums.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (n : Fin 4) (k : Fin 10) (h : Fin 80)

/-- One head's values in a chunk. -/
def xch : Fin 64 → Fin 256 → EReal := fun p s => x0 (ix4 n (pos k s) h p)
/-- One head's steps in a chunk. -/
def dch : Fin 256 → EReal := fun s => x1 (ix3 n (pos k s) h)

theorem pos_eq (s : Fin 256) : pos k s = ⟨k.val * 256 + s.val, by omega⟩ :=
  Fin.ext (by show 256 * k.val + s.val = k.val * 256 + s.val; omega)

theorem v74_at (hs : ∀ s, Small (mX (xch x0 n k h) s)) (s : Fin 256) (p : Fin 64) :
    val_main_v74 (F := Ideal) x0 (ix5 n k s h p) = qX (xch x0 n k h) p s := by
  refine Eq.trans ?_ (v21_at x0 n (pos k s) h (hs s) p)
  rw [pos_eq]
  pointwise [val_main_v74]

theorem v75_at (hs : ∀ s, Small (mX (xch x0 n k h) s)) (s : Fin 256) (p : Fin 64) :
    val_main_v75 (F := Ideal) x0 (ix5 n k s h p) = qX (xch x0 n k h) p s :=
  v74_at x0 n k h hs s p

theorem v76_at (hs : ∀ s, Small (mX (xch x0 n k h) s)) (s : Fin 256) :
    val_main_v76 (F := Ideal) x0 (ix4 n k s h) = sX (xch x0 n k h) s := by
  refine Eq.trans ?_ (v22_at x0 n (pos k s) h (hs s))
  rw [pos_eq]
  pointwise [val_main_v76]

theorem v77_at (s : Fin 256) : val_main_v77 (F := Ideal) x1 (ix4 n k s h) = dch x1 n k h s := by
  rw [dch, pos_eq]
  pointwise [val_main_v77]

theorem v79_at (s : Fin 256) : val_main_v79 (F := Ideal) x2 (ix4 n k s h) = x2 (ix1 h) := by
  pointwise [val_main_v79, val_main_v78]

theorem v80_at (s : Fin 256) : val_main_v80 (F := Ideal) x1 x2 (ix4 n k s h) = x2 (ix1 h) * dch x1 n k h s := by
  rw [val_main_v80_apply, v77_at, v79_at]
  rfl

theorem v81_at (t : Fin 256) : val_main_v81 (F := Ideal) x1 x2 (ix4 n k t h) = acs (x2 (ix1 h)) (dch x1 n k h) t := by
  unfold val_main_v81 Host.reduceWindowAdd
  rw [val_main_call6_call0_v0_apply, val_main_call6_call0_cst_apply, Ideal.hostReduceWindowAdd_def, show (FloatOps.ofBits .f32 0x00000000#32 : Ideal .f32) = (0 : EReal) from ofBits_zero]
  refine (cumsum4 _ _ n k t h).trans ?_
  unfold acs
  refine Finset.sum_congr rfl fun s _ => ?_
  rw [v80_at]

theorem v83_at : val_main_v83 (F := Ideal) x1 x2 (ix3 n k h) = acs (x2 (ix1 h)) (dch x1 n k h) 255 := by
  rw [← v81_at]
  pointwise [val_main_v83, val_main_v82]

theorem v84_at (t : Fin 256) : val_main_v84 (F := Ideal) x1 x2 (ix4 n k h t) = acs (x2 (ix1 h)) (dch x1 n k h) t := by
  rw [← v81_at]
  pointwise [val_main_v84]

end Cert.Ssd.Ref
-- ==== Proof.RefWeight.lean ====
module

public import proofs.«01_k».proof.Proof.RefChunk

/-!
The reference's decays and weights.
-/

@[expose] public section

set_option maxRecDepth 16384

noncomputable section

open Idealize.ShloMosaic Idealize.ShloMosaic.TcCoe Idealize.SL.Sem
open Idealize.ShloMosaic.WordCmp
open Cert.ReferenceIdeal Cert.ReferenceIdeal.Gen Cert.ReferenceIdeal.Read

namespace Cert.Ssd.Ref

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (n : Fin 4) (k : Fin 10) (h : Fin 80)

theorem mask_word (t s : Fin 256) :
    Scalar.select (IntOp.cmpi .sge (IntOp.addi (BitVec.ofNat 32 t.val) 0#32) (BitVec.ofNat 32 s.val)) (1#1) (0#1)
      = if s ≤ t then 1#1 else 0#1 := by
  rw [show IntOp.addi (BitVec.ofNat 32 t.val) 0#32 = BitVec.ofNat 32 t.val from BitVec.add_zero _]
  change Scalar.select (IntOp.cmpi .sle (BitVec.ofNat 32 s.val) (BitVec.ofNat 32 t.val)) (1#1) (0#1) = _
  rw [cmpi_sle_ofNat (by have := s.isLt; omega) (by have := t.isLt; omega)]
  by_cases h : s ≤ t
  · rw [if_pos h, decide_eq_true (show s.val ≤ t.val from h)]; rfl
  · rw [if_neg h, decide_eq_false (show ¬ s.val ≤ t.val from h)]; rfl

theorem v86_at (t s : Fin 256) : val_main_v86 (F := Ideal) (ix2 t s) = if s ≤ t then 1#1 else 0#1 := by
  refine Eq.trans ?_ (mask_word t s)
  rw [val_main_v86_apply, val_main_v85_apply, val_main_call7_v5_apply, val_main_call7_v4_apply, val_main_call7_v3_apply,
    val_main_call7_v2_apply, val_main_call7_v1_apply, val_main_call7_v0_apply, val_main_c_apply, val_main_call7_c_apply,
    val_main_call7_c_0_apply, ix2_0, ix2_1]

theorem v91_at (t s : Fin 256) : val_main_v91 (F := Ideal) x1 x2 (ix5 n k h t s)
    = acs (x2 (ix1 h)) (dch x1 n k h) t - acs (x2 (ix1 h)) (dch x1 n k h) s := by
  rw [← v84_at, ← v84_at]
  pointwise [val_main_v91, val_main_v90, val_main_v89, val_main_v88, val_main_v87]

theorem v93_at (t s : Fin 256) : val_main_v93 (F := Ideal) x1 x2 (ix5 n k h t s) = dec (x2 (ix1 h)) (dch x1 n k h) t s := by
  have hm : val_main_call8_v1 (F := Ideal) (ix5 n k h t s) = if s ≤ t then 1#1 else 0#1 := by
    rw [← v86_at]
    pointwise [val_main_call8_v1]
  rw [val_main_v93_apply, val_main_v92_apply, hm, v91_at, val_main_call8_v2_apply, val_main_call8_v0_apply, val_main_cst_26_apply,
    show (FloatOps.ofBits .f32 0xFF800000#32 : Ideal .f32) = (⊥ : EReal) from ofBits_ninf32, dec]
  split <;> rfl

variable (hb : Small (mB (bch x3 n k))) (hc : Small (mB (bch x4 n k)))
include hb hc

theorem v94_at (t s : Fin 256) : val_main_v94 (F := Ideal) x3 x4 (ix4 n k t s)
    = ∑ l : Fin 128, qB (bch x4 n k) t l * qB (bch x3 n k) s l := by
  have e : val_main_v94 (F := Ideal) x3 x4 (ix4 n k t s)
      = ∑ l : Fin 128, val_main_v69 (F := Ideal) x4 (ix4 n k t l) * val_main_v45 (F := Ideal) x3 (ix4 n k s l) := by
    pointwise [val_main_v94]
  rw [e]
  exact Finset.sum_congr rfl fun l _ => by rw [v69_at x4 n k hc, v45_at x3 n k hb]

theorem v97_at (t s : Fin 256) : val_main_v97 (F := Ideal) x3 x4 (ix4 n k t s) = sB (bch x4 n k) * sB (bch x3 n k) := by
  have e : val_main_v97 (F := Ideal) x3 x4 (ix4 n k t s) = val_main_v95 (F := Ideal) x3 x4 (ix2 n k) := by
    pointwise [val_main_v97, val_main_v96]
  rw [e, val_main_v95_apply, v72_at x4 n k hc, v71_at x3 n k hb]
  rfl

theorem v98_at (t s : Fin 256) : val_main_v98 (F := Ideal) x3 x4 (ix4 n k t s) = cbm (bch x3 n k) (bch x4 n k) t s := by
  rw [val_main_v98_apply, v94_at x3 x4 n k hb hc, v97_at x3 x4 n k hb hc]
  rfl

variable (hs : ∀ s, Small (mX (xch x0 n k h) s))
include hs

theorem v106_at (t s : Fin 256) : val_main_v106 (F := Ideal) x0 x1 x2 x3 x4 (ix5 n k h t s)
    = wt (x2 (ix1 h)) (xch x0 n k h) (dch x1 n k h) (bch x3 n k) (bch x4 n k) t s := by
  have e1 : val_main_v102 (F := Ideal) x3 x4 (ix5 n k h t s) = val_main_v98 (F := Ideal) x3 x4 (ix4 n k t s) := by
    pointwise [val_main_v102, val_main_v101]
  have e2 : val_main_v105 (F := Ideal) x0 x1 (ix5 n k h t s) = val_main_v99 (F := Ideal) x0 x1 (ix4 n k s h) := by
    pointwise [val_main_v105, val_main_v104, val_main_v100]
  rw [val_main_v106_apply, val_main_v103_apply, e1, e2, val_main_v99_apply, v98_at x3 x4 n k hb hc, v93_at, v76_at x0 n k h hs, v77_at]
  rfl

theorem v109_at (t : Fin 256) (p : Fin 64) : val_main_v109 (F := Ideal) x0 x1 x2 x3 x4 (ix5 n k t h p)
    = ∑ s : Fin 256, qX (xch x0 n k h) p s * wt (x2 (ix1 h)) (xch x0 n k h) (dch x1 n k h) (bch x3 n k) (bch x4 n k) t s := by
  have e : val_main_v109 (F := Ideal) x0 x1 x2 x3 x4 (ix5 n k t h p)
      = ∑ s : Fin 256, val_main_v75 (F := Ideal) x0 (ix5 n k s h p) * val_main_v107 (F := Ideal) x0 x1 x2 x3 x4 (ix5 n k h t s) := by
    pointwise [val_main_v109, val_main_v108]
  rw [e]
  refine Finset.sum_congr rfl fun s _ => ?_
  rw [v75_at x0 n k h hs, val_main_v107_apply]
  exact congrArg (fun z : EReal => qX (xch x0 n k h) p s * z) (v106_at x0 x1 x2 x3 x4 n k h hb hc hs t s)

end Cert.Ssd.Ref
-- ==== Proof.RefState.lean ====
module

public import proofs.«01_k».proof.Proof.RefChunk

/-!
What the reference adds to the state at a chunk.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 : (⟨S4x2560x1x128, .bf16⟩ : BufTy).Contents (Elt Ideal))
  (n : Fin 4) (k : Fin 10) (h : Fin 80)

variable (hb : Small (mB (bch x3 n k))) (hs : ∀ s, Small (mX (xch x0 n k h) s))
include hs

theorem v115_at (s : Fin 256) : val_main_v115 (F := Ideal) x0 x1 x2 (ix4 n k s h)
    = wst (x2 (ix1 h)) (xch x0 n k h) (dch x1 n k h) s := by
  have e : val_main_v111 (F := Ideal) x1 x2 (ix4 n k s h) = val_main_v83 (F := Ideal) x1 x2 (ix3 n k h) := by
    pointwise [val_main_v111, val_main_v110]
  rw [val_main_v115_apply, val_main_v114_apply, val_main_v113_apply, val_main_v112_apply, e, v83_at, v81_at, v76_at x0 n k h hs, v77_at]
  rfl

theorem v119_at (s : Fin 256) (p : Fin 64) : val_main_v119 (F := Ideal) x0 x1 x2 (ix5 n k s h p)
    = qX (xch x0 n k h) p s * wst (x2 (ix1 h)) (xch x0 n k h) (dch x1 n k h) s := by
  have e : val_main_v118 (F := Ideal) x0 x1 x2 (ix5 n k s h p) = val_main_v116 (F := Ideal) x0 x1 x2 (ix4 n k s h) := by
    pointwise [val_main_v118, val_main_v117]
  rw [val_main_v119_apply, e, v75_at x0 n k h hs, val_main_v116_apply]
  exact congrArg (fun z : EReal => qX (xch x0 n k h) p s * z) (v115_at x0 x1 x2 n k h hs s)

include hb

theorem v121_at (p : Fin 64) (l : Fin 128) : val_main_v121 (F := Ideal) x0 x1 x2 x3 (ix5 n k h p l)
    = ∑ s : Fin 256, (qX (xch x0 n k h) p s * wst (x2 (ix1 h)) (xch x0 n k h) (dch x1 n k h) s) * qB (bch x3 n k) s l := by
  have e : val_main_v121 (F := Ideal) x0 x1 x2 x3 (ix5 n k h p l)
      = ∑ s : Fin 256, val_main_v119 (F := Ideal) x0 x1 x2 (ix5 n k s h p) * val_main_v120 (F := Ideal) x3 (ix4 n k s l) := by
    pointwise [val_main_v121]
  rw [e]
  refine Finset.sum_congr rfl fun s _ => ?_
  rw [v119_at x0 x1 x2 n k h hs, val_main_v120_apply]
  exact congrArg (fun z : EReal => (qX (xch x0 n k h) p s * wst (x2 (ix1 h)) (xch x0 n k h) (dch x1 n k h) s) * z) (v45_at x3 n k hb s l)

theorem v124_at (p : Fin 64) (l : Fin 128) : val_main_v124 (F := Ideal) x0 x1 x2 x3 (ix5 n k h p l)
    = stU (x2 (ix1 h)) (xch x0 n k h) (dch x1 n k h) (bch x3 n k) p l := by
  have e : val_main_v123 (F := Ideal) x3 (ix5 n k h p l) = val_main_v71 (F := Ideal) x3 (ix2 n k) := by
    pointwise [val_main_v123, val_main_v122]
  rw [val_main_v124_apply, e, v121_at x0 x1 x2 x3 n k h hb hs, v71_at x3 n k hb]
  rfl

end Cert.Ssd.Ref
-- ==== Proof.RefStates.lean ====
module

public import proofs.«01_k».proof.Proof.RefState

/-!
The states of the reference.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (x5 : (⟨S80, .f32⟩ : BufTy).Contents (Elt Ideal)) (n : Fin 4) (h : Fin 80) (p : Fin 64) (l : Fin 128)

/-- One step of the states, as the reference writes it. -/
def Step (prev next : (⟨S4x80x64x128, .f32⟩ : BufTy).Contents (Elt Ideal)) (k : Fin 10) : Prop :=
  ∀ n h p l, next (ix4 n h p l) = Ideal.exp (val_main_v83 (F := Ideal) x1 x2 (ix3 n k h)) * prev (ix4 n h p l)
    + val_main_v124 (F := Ideal) x0 x1 x2 x3 (ix5 n k h p l)

/-- An array which holds the states before chunk `k`. -/
def Holds (v : (⟨S4x80x64x128, .f32⟩ : BufTy).Contents (Elt Ideal)) (k : ℕ) : Prop :=
  ∀ n h p l, v (ix4 n h p l) = (inp x0 x1 x2 x3 x4 x5).st n k h p l

theorem Holds.step (hf : (inp x0 x1 x2 x3 x4 x5).Fine) {prev next : (⟨S4x80x64x128, .f32⟩ : BufTy).Contents (Elt Ideal)} (k : Fin 10)
    (hp : Holds x0 x1 x2 x3 x4 x5 prev k.val) (hn : Step x0 x1 x2 x3 prev next k) : Holds x0 x1 x2 x3 x4 x5 next (k.val + 1) := by
  intro n h p l
  rw [hn, hp, v83_at, v124_at x0 x1 x2 x3 n k h (hf.b n k) (hf.x n k h), Inp.st_succ]
  rfl

theorem step0 : Step x0 x1 x2 x3 (val_main_v125 (F := Ideal)) (val_main_v134 (F := Ideal) x0 x1 x2 x3) 0 := by
  intro n h p l
  pointwise [val_main_v134, val_main_v133, val_main_v132, val_main_v131, val_main_v130, val_main_v129, val_main_v128, val_main_v127, val_main_v126]

theorem step1 : Step x0 x1 x2 x3 (val_main_v134 (F := Ideal) x0 x1 x2 x3) (val_main_v143 (F := Ideal) x0 x1 x2 x3) 1 := by
  intro n h p l
  pointwise [val_main_v143, val_main_v142, val_main_v141, val_main_v140, val_main_v139, val_main_v138, val_main_v137, val_main_v136, val_main_v135]

theorem step2 : Step x0 x1 x2 x3 (val_main_v143 (F := Ideal) x0 x1 x2 x3) (val_main_v152 (F := Ideal) x0 x1 x2 x3) 2 := by
  intro n h p l
  pointwise [val_main_v152, val_main_v151, val_main_v150, val_main_v149, val_main_v148, val_main_v147, val_main_v146, val_main_v145, val_main_v144]

theorem step3 : Step x0 x1 x2 x3 (val_main_v152 (F := Ideal) x0 x1 x2 x3) (val_main_v161 (F := Ideal) x0 x1 x2 x3) 3 := by
  intro n h p l
  pointwise [val_main_v161, val_main_v160, val_main_v159, val_main_v158, val_main_v157, val_main_v156, val_main_v155, val_main_v154, val_main_v153]

theorem step4 : Step x0 x1 x2 x3 (val_main_v161 (F := Ideal) x0 x1 x2 x3) (val_main_v170 (F := Ideal) x0 x1 x2 x3) 4 := by
  intro n h p l
  pointwise [val_main_v170, val_main_v169, val_main_v168, val_main_v167, val_main_v166, val_main_v165, val_main_v164, val_main_v163, val_main_v162]

theorem step5 : Step x0 x1 x2 x3 (val_main_v170 (F := Ideal) x0 x1 x2 x3) (val_main_v179 (F := Ideal) x0 x1 x2 x3) 5 := by
  intro n h p l
  pointwise [val_main_v179, val_main_v178, val_main_v177, val_main_v176, val_main_v175, val_main_v174, val_main_v173, val_main_v172, val_main_v171]

theorem step6 : Step x0 x1 x2 x3 (val_main_v179 (F := Ideal) x0 x1 x2 x3) (val_main_v188 (F := Ideal) x0 x1 x2 x3) 6 := by
  intro n h p l
  pointwise [val_main_v188, val_main_v187, val_main_v186, val_main_v185, val_main_v184, val_main_v183, val_main_v182, val_main_v181, val_main_v180]

theorem step7 : Step x0 x1 x2 x3 (val_main_v188 (F := Ideal) x0 x1 x2 x3) (val_main_v197 (F := Ideal) x0 x1 x2 x3) 7 := by
  intro n h p l
  pointwise [val_main_v197, val_main_v196, val_main_v195, val_main_v194, val_main_v193, val_main_v192, val_main_v191, val_main_v190, val_main_v189]

theorem step8 : Step x0 x1 x2 x3 (val_main_v197 (F := Ideal) x0 x1 x2 x3) (val_main_v206 (F := Ideal) x0 x1 x2 x3) 8 := by
  intro n h p l
  pointwise [val_main_v206, val_main_v205, val_main_v204, val_main_v203, val_main_v202, val_main_v201, val_main_v200, val_main_v199, val_main_v198]

theorem step9 : Step x0 x1 x2 x3 (val_main_v206 (F := Ideal) x0 x1 x2 x3) (val_main_v215 (F := Ideal) x0 x1 x2 x3) 9 := by
  intro n h p l
  pointwise [val_main_v215, val_main_v214, val_main_v213, val_main_v212, val_main_v211, val_main_v210, val_main_v209, val_main_v208, val_main_v207]

variable (hf : (inp x0 x1 x2 x3 x4 x5).Fine)

theorem holds0 : Holds x0 x1 x2 x3 x4 x5 (val_main_v125 (F := Ideal)) 0 := by
  intro n h p l
  rw [val_main_v125_apply, val_main_cst_27_apply]
  exact ofBits_zero

include hf

theorem holds1 : Holds x0 x1 x2 x3 x4 x5 (val_main_v134 (F := Ideal) x0 x1 x2 x3) 1 :=
  Holds.step x0 x1 x2 x3 x4 x5 hf 0 (holds0 x0 x1 x2 x3 x4 x5) (step0 x0 x1 x2 x3)
theorem holds2 : Holds x0 x1 x2 x3 x4 x5 (val_main_v143 (F := Ideal) x0 x1 x2 x3) 2 :=
  Holds.step x0 x1 x2 x3 x4 x5 hf 1 (holds1 x0 x1 x2 x3 x4 x5 hf) (step1 x0 x1 x2 x3)
theorem holds3 : Holds x0 x1 x2 x3 x4 x5 (val_main_v152 (F := Ideal) x0 x1 x2 x3) 3 :=
  Holds.step x0 x1 x2 x3 x4 x5 hf 2 (holds2 x0 x1 x2 x3 x4 x5 hf) (step2 x0 x1 x2 x3)
theorem holds4 : Holds x0 x1 x2 x3 x4 x5 (val_main_v161 (F := Ideal) x0 x1 x2 x3) 4 :=
  Holds.step x0 x1 x2 x3 x4 x5 hf 3 (holds3 x0 x1 x2 x3 x4 x5 hf) (step3 x0 x1 x2 x3)
theorem holds5 : Holds x0 x1 x2 x3 x4 x5 (val_main_v170 (F := Ideal) x0 x1 x2 x3) 5 :=
  Holds.step x0 x1 x2 x3 x4 x5 hf 4 (holds4 x0 x1 x2 x3 x4 x5 hf) (step4 x0 x1 x2 x3)
theorem holds6 : Holds x0 x1 x2 x3 x4 x5 (val_main_v179 (F := Ideal) x0 x1 x2 x3) 6 :=
  Holds.step x0 x1 x2 x3 x4 x5 hf 5 (holds5 x0 x1 x2 x3 x4 x5 hf) (step5 x0 x1 x2 x3)
theorem holds7 : Holds x0 x1 x2 x3 x4 x5 (val_main_v188 (F := Ideal) x0 x1 x2 x3) 7 :=
  Holds.step x0 x1 x2 x3 x4 x5 hf 6 (holds6 x0 x1 x2 x3 x4 x5 hf) (step6 x0 x1 x2 x3)
theorem holds8 : Holds x0 x1 x2 x3 x4 x5 (val_main_v197 (F := Ideal) x0 x1 x2 x3) 8 :=
  Holds.step x0 x1 x2 x3 x4 x5 hf 7 (holds7 x0 x1 x2 x3 x4 x5 hf) (step7 x0 x1 x2 x3)
theorem holds9 : Holds x0 x1 x2 x3 x4 x5 (val_main_v206 (F := Ideal) x0 x1 x2 x3) 9 :=
  Holds.step x0 x1 x2 x3 x4 x5 hf 8 (holds8 x0 x1 x2 x3 x4 x5 hf) (step8 x0 x1 x2 x3)
theorem holds10 : Holds x0 x1 x2 x3 x4 x5 (val_main_v215 (F := Ideal) x0 x1 x2 x3) 10 :=
  Holds.step x0 x1 x2 x3 x4 x5 hf 9 (holds9 x0 x1 x2 x3 x4 x5 hf) (step9 x0 x1 x2 x3)

omit hf in
/-- Ten arrays joined along the axis of the chunks. -/
theorem cat10 (f : Fin 10 → S4x1x80x64x128.Idx → EReal)
    (hc : Shape.Concatenates [S4x1x80x64x128, S4x1x80x64x128, S4x1x80x64x128, S4x1x80x64x128, S4x1x80x64x128, S4x1x80x64x128,
      S4x1x80x64x128, S4x1x80x64x128, S4x1x80x64x128, S4x1x80x64x128] S4x10x80x64x128 1) (k : Fin 10) :
    concatenate S4x10x80x64x128 1 [⟨S4x1x80x64x128, f 0⟩, ⟨S4x1x80x64x128, f 1⟩, ⟨S4x1x80x64x128, f 2⟩, ⟨S4x1x80x64x128, f 3⟩,
      ⟨S4x1x80x64x128, f 4⟩, ⟨S4x1x80x64x128, f 5⟩, ⟨S4x1x80x64x128, f 6⟩, ⟨S4x1x80x64x128, f 7⟩, ⟨S4x1x80x64x128, f 8⟩,
      ⟨S4x1x80x64x128, f 9⟩] hc (ix5 n k h p l) = f k (ix5 n 0 h p l) := by
  refine concatenate_apply_piece (t := S4x10x80x64x128) _ _ _ _ k.val ?_ S4x1x80x64x128 (f k) ?_ rfl k.val ?_ _ (fun b hb => ?_) ?_
  · exact k.isLt
  · fin_cases k <;> rfl
  · fin_cases k <;> rfl
  · match b, hb with
    | ⟨0, _⟩, _ => rfl
    | ⟨1, _⟩, hb => exact absurd rfl hb
    | ⟨2, _⟩, _ => rfl
    | ⟨3, _⟩, _ => rfl
    | ⟨4, _⟩, _ => rfl
  · rfl

/-- The states before each chunk, joined. -/
theorem v226_at (k : Fin 10) : val_main_v226 (F := Ideal) x0 x1 x2 x3 (ix5 n k h p l) = (inp x0 x1 x2 x3 x4 x5).st n k.val h p l := by
  refine (cat10 n h p l ![val_main_v216 (F := Ideal), val_main_v217 (F := Ideal) x0 x1 x2 x3, val_main_v218 (F := Ideal) x0 x1 x2 x3,
    val_main_v219 (F := Ideal) x0 x1 x2 x3, val_main_v220 (F := Ideal) x0 x1 x2 x3, val_main_v221 (F := Ideal) x0 x1 x2 x3,
    val_main_v222 (F := Ideal) x0 x1 x2 x3, val_main_v223 (F := Ideal) x0 x1 x2 x3, val_main_v224 (F := Ideal) x0 x1 x2 x3,
    val_main_v225 (F := Ideal) x0 x1 x2 x3] _ k).trans ?_
  have hi : ∀ y : (⟨S4x80x64x128, .f32⟩ : BufTy).Contents (Elt Ideal),
      broadcastInDim S4x1x80x64x128 ![0, 2, 3, 4] bcast_S4x80x64x128_S4x1x80x64x128_0_2_3_4 y (ix5 n 0 h p l) = y (ix4 n h p l) := by
    intro y
    pointwise
  match k with
  | ⟨0, _⟩ => exact (hi _).trans (holds0 x0 x1 x2 x3 x4 x5 n h p l)
  | ⟨1, _⟩ => exact (hi _).trans (holds1 x0 x1 x2 x3 x4 x5 hf n h p l)
  | ⟨2, _⟩ => exact (hi _).trans (holds2 x0 x1 x2 x3 x4 x5 hf n h p l)
  | ⟨3, _⟩ => exact (hi _).trans (holds3 x0 x1 x2 x3 x4 x5 hf n h p l)
  | ⟨4, _⟩ => exact (hi _).trans (holds4 x0 x1 x2 x3 x4 x5 hf n h p l)
  | ⟨5, _⟩ => exact (hi _).trans (holds5 x0 x1 x2 x3 x4 x5 hf n h p l)
  | ⟨6, _⟩ => exact (hi _).trans (holds6 x0 x1 x2 x3 x4 x5 hf n h p l)
  | ⟨7, _⟩ => exact (hi _).trans (holds7 x0 x1 x2 x3 x4 x5 hf n h p l)
  | ⟨8, _⟩ => exact (hi _).trans (holds8 x0 x1 x2 x3 x4 x5 hf n h p l)
  | ⟨9, _⟩ => exact (hi _).trans (holds9 x0 x1 x2 x3 x4 x5 hf n h p l)

end Cert.Ssd.Ref
-- ==== Proof.RefResults.lean ====
module

public import proofs.«01_k».proof.Proof.RefWeight
public import proofs.«01_k».proof.Proof.RefStates

/-!
The results of the reference.
-/

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Ssd.Ref

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (x5 : (⟨S80, .f32⟩ : BufTy).Contents (Elt Ideal)) (hf : (inp x0 x1 x2 x3 x4 x5).Fine) (n : Fin 4) (h : Fin 80)

include hf

/-- A code of `C` times the states before the chunk. -/
theorem v229_at (k : Fin 10) (t : Fin 256) (p : Fin 64) : val_main_v229 (F := Ideal) x0 x1 x2 x3 x4 (ix5 n k t h p)
    = ∑ l : Fin 128, qB (bch x4 n k) t l * (inp x0 x1 x2 x3 x4 x5).st n k.val h p l := by
  have e : val_main_v229 (F := Ideal) x0 x1 x2 x3 x4 (ix5 n k t h p)
      = ∑ l : Fin 128, val_main_v227 (F := Ideal) x4 (ix4 n k t l) * val_main_v228 (F := Ideal) x0 x1 x2 x3 (ix5 n k h p l) := by
    pointwise [val_main_v229]
  rw [e]
  refine Finset.sum_congr rfl fun l _ => ?_
  rw [val_main_v227_apply, val_main_v228_apply]
  exact congrArg₂ (fun y z : EReal => y * z) (v69_at x4 n k (hf.c n k) t l) (v226_at x0 x1 x2 x3 x4 x5 n h p l hf k)

/-- What the states before the chunk add to an output. -/
theorem v236_at (k : Fin 10) (t : Fin 256) (p : Fin 64) : val_main_v236 (F := Ideal) x0 x1 x2 x3 x4 (ix5 n k t h p)
    = (∑ l : Fin 128, qB (bch x4 n k) t l * (inp x0 x1 x2 x3 x4 x5).st n k.val h p l) * sB (bch x4 n k)
      * Ideal.exp (acs (x2 (ix1 h)) (dch x1 n k h) t) := by
  have e1 : val_main_v231 (F := Ideal) x4 (ix5 n k t h p) = val_main_v72 (F := Ideal) x4 (ix2 n k) := by
    pointwise [val_main_v231, val_main_v230]
  have e2 : val_main_v235 (F := Ideal) x1 x2 (ix5 n k t h p) = val_main_v233 (F := Ideal) x1 x2 (ix4 n k t h) := by
    pointwise [val_main_v235, val_main_v234]
  rw [val_main_v236_apply, val_main_v232_apply, e1, e2, v229_at x0 x1 x2 x3 x4 x5 hf, v72_at x4 n k (hf.c n k), val_main_v233_apply, v81_at]
  rfl

/-- What the input itself adds to an output. -/
theorem v242_at (k : Fin 10) (t : Fin 256) (p : Fin 64) : val_main_v242 (F := Ideal) x0 x5 (ix5 n k t h p)
    = x5 (ix1 h) * xch x0 n k h p t := by
  rw [xch, pos_eq]
  pointwise [val_main_v242, val_main_v241, val_main_v240, val_main_v239, val_main_v238, val_main_v73]

/-- The outputs, chunk by chunk. -/
theorem v243_at (k : Fin 10) (t : Fin 256) (p : Fin 64) : val_main_v243 (F := Ideal) x0 x1 x2 x3 x4 x5 (ix5 n k t h p)
    = (inp x0 x1 x2 x3 x4 x5).y n k h p t := by
  rw [val_main_v243_apply, val_main_v237_apply, v109_at x0 x1 x2 x3 x4 n k h (hf.b n k) (hf.c n k) (hf.x n k h),
    v236_at x0 x1 x2 x3 x4 x5 hf, v242_at x0 x1 x2 x3 x4 x5 hf]
  rfl

/-- The outputs. -/
theorem v246_at (p : Fin 64) (t : Fin 2560) : val_main_v246 (F := Ideal) x0 x1 x2 x3 x4 x5 (ix4 n h p t)
    = (inp x0 x1 x2 x3 x4 x5).y n (chunk t) h p (off t) := by
  rw [← v243_at x0 x1 x2 x3 x4 x5 hf]
  pointwise [val_main_v246, val_main_v245, val_main_v244]
  rfl

/-- The last states. -/
theorem v215_at (p : Fin 64) (l : Fin 128) : val_main_v215 (F := Ideal) x0 x1 x2 x3 (ix4 n h p l)
    = (inp x0 x1 x2 x3 x4 x5).st n 10 h p l :=
  holds10 x0 x1 x2 x3 x4 x5 hf n h p l

/-- The codes of `x`. -/
theorem v248_at (p : Fin 64) (t : Fin 2560) : val_main_v248 (F := Ideal) x0 (ix4 n h p t)
    = qX ((inp x0 x1 x2 x3 x4 x5).xc n (chunk t) h) p (off t) := by
  refine Eq.trans ?_ (v21_at x0 n (pos (chunk t) (off t)) h (hf.x n (chunk t) h (off t)) p)
  rw [pos_chunk]
  pointwise [val_main_v248, val_main_v247]

/-- The scales of `x`. -/
theorem v250_at (t : Fin 2560) : val_main_v250 (F := Ideal) x0 (ix3 n h t)
    = sX ((inp x0 x1 x2 x3 x4 x5).xc n (chunk t) h) (off t) := by
  refine Eq.trans ?_ (v22_at x0 n (pos (chunk t) (off t)) h (hf.x n (chunk t) h (off t)))
  rw [pos_chunk]
  pointwise [val_main_v250, val_main_v249]

/-- The codes of `B`. -/
theorem v252_at (t : Fin 2560) (l : Fin 128) : val_main_v252 (F := Ideal) x3 (ix3 n t l)
    = qB ((inp x0 x1 x2 x3 x4 x5).bc n (chunk t)) (off t) l := by
  refine Eq.trans ?_ (v45_at x3 n (chunk t) (hf.b n (chunk t)) (off t) l)
  pointwise [val_main_v252, val_main_v251]
  rfl

/-- The codes of `C`. -/
theorem v255_at (t : Fin 2560) (l : Fin 128) : val_main_v255 (F := Ideal) x4 (ix3 n t l)
    = qB ((inp x0 x1 x2 x3 x4 x5).cc n (chunk t)) (off t) l := by
  refine Eq.trans ?_ (v69_at x4 n (chunk t) (hf.c n (chunk t)) (off t) l)
  pointwise [val_main_v255, val_main_v254]
  rfl

/-- The scales of `B`. -/
theorem v253_at (k : Fin 10) : val_main_v253 (F := Ideal) x3 (ix3 n 0 k) = sB ((inp x0 x1 x2 x3 x4 x5).bc n k) := by
  refine Eq.trans ?_ (v71_at x3 n k (hf.b n k))
  pointwise [val_main_v253]

/-- The scales of `C`. -/
theorem v256_at (k : Fin 10) : val_main_v256 (F := Ideal) x4 (ix3 n 0 k) = sB ((inp x0 x1 x2 x3 x4 x5).cc n k) := by
  refine Eq.trans ?_ (v72_at x4 n k (hf.c n k))
  pointwise [val_main_v256]

end Cert.Ssd.Ref
-- ==== Proof.Equal.lean ====
module

public import proofs.«01_k».proof.Proof.Results
public import proofs.«01_k».proof.Proof.RefResults

/-!
Each array the kernel returns is the array the reference returns.
-/

@[expose] public section

set_option maxRecDepth 16384

noncomputable section

open Idealize.ShloMosaic Idealize.ShloMosaic.TcCoe Idealize.SL.Sem
open Cert.ReferenceIdeal Cert.ReferenceIdeal.Read

namespace Cert.Ssd

variable (x0 : (⟨S4x2560x80x64, .bf16⟩ : BufTy).Contents (Elt Ideal)) (x1 : (⟨S4x2560x80, .f32⟩ : BufTy).Contents (Elt Ideal))
  (x2 : (⟨S80, .f32⟩ : BufTy).Contents (Elt Ideal)) (x3 x4 : (⟨S4x2560x1x128, .bf16⟩ : BufTy).Contents (Elt Ideal))
  (x5 : (⟨S80, .f32⟩ : BufTy).Contents (Elt Ideal))
  (m : (ℓ : Loc Cert.KernelIdeal.nD Cert.KernelIdeal.τ Cert.KernelIdeal.sig) → Buf (Elt Ideal) ℓ) (c : Dev Cert.KernelIdeal.nD)
  (hi : Ref.inp x0 x1 x2 x3 x4 x5 = inp m c) (hf : (inp m c).Fine)
include hi hf

open Cert.KernelIdeal.Value

/-- The inputs read from the reference arguments are as good as those read from the kernel arguments. -/
theorem fineR : (Ref.inp x0 x1 x2 x3 x4 x5).Fine := hi ▸ hf

/-- The outputs. -/
theorem y_eq : val_main_v246 (F := Ideal) x0 x1 x2 x3 x4 x5 = G6 m c := by
  refine funext fun (i : S4x80x64x2560.Idx) => ?_
  rw [eq_ix4 i]
  refine (Ref.v246_at x0 x1 x2 x3 x4 x5 (fineR _ _ _ _ _ _ m c hi hf) (i 0) (i 1) (i 2) (i 3)).trans ?_
  rw [hi]
  exact (G6_at hf (i 0) (i 1) (i 2) (i 3)).symm

/-- The last states. -/
theorem h_eq : val_main_v215 (F := Ideal) x0 x1 x2 x3 = G7 m c := by
  refine funext fun (i : S4x80x64x128.Idx) => ?_
  rw [eq_ix4 i]
  refine (Ref.v215_at x0 x1 x2 x3 x4 x5 (fineR _ _ _ _ _ _ m c hi hf) (i 0) (i 1) (i 2) (i 3)).trans ?_
  rw [hi]
  exact (G7_at hf (i 0) (i 1) (i 2) (i 3)).symm

/-- The codes of `x`. -/
theorem xc_eq : val_main_v248 (F := Ideal) x0 = G8 m c := by
  refine funext fun (i : S4x80x64x2560.Idx) => ?_
  rw [eq_ix4 i]
  refine (Ref.v248_at x0 x1 x2 x3 x4 x5 (fineR _ _ _ _ _ _ m c hi hf) (i 0) (i 1) (i 2) (i 3)).trans ?_
  rw [hi]
  exact (G8_at hf (i 0) (i 1) (i 2) (i 3)).symm

/-- The scales of `x`. -/
theorem xs_eq : val_main_v250 (F := Ideal) x0 = G9 m c := by
  refine funext fun (i : S4x80x2560.Idx) => ?_
  rw [eq_ix3 i]
  refine (Ref.v250_at x0 x1 x2 x3 x4 x5 (fineR _ _ _ _ _ _ m c hi hf) (i 0) (i 1) (i 2)).trans ?_
  rw [hi]
  exact (G9_at hf (i 0) (i 1) (i 2)).symm

/-- The codes of `B`. -/
theorem bc_eq : val_main_v252 (F := Ideal) x3 = G10 m c := by
  refine funext fun (i : S4x2560x128.Idx) => ?_
  rw [eq_ix3 i]
  refine (Ref.v252_at x0 x1 x2 x3 x4 x5 (fineR _ _ _ _ _ _ m c hi hf) (i 0) (i 1) (i 2)).trans ?_
  rw [hi]
  exact (G10_at hf (i 0) (i 1) (i 2)).symm

/-- The codes of `C`. -/
theorem cc_eq : val_main_v255 (F := Ideal) x4 = G12 m c := by
  refine funext fun (i : S4x2560x128.Idx) => ?_
  rw [eq_ix3 i]
  refine (Ref.v255_at x0 x1 x2 x3 x4 x5 (fineR _ _ _ _ _ _ m c hi hf) (i 0) (i 1) (i 2)).trans ?_
  rw [hi]
  exact (G12_at hf (i 0) (i 1) (i 2)).symm

/-- The scales of `B`. -/
theorem bs_eq : val_main_v253 (F := Ideal) x3 = G11 m c := by
  refine funext fun (i : S4x1x10.Idx) => ?_
  have ei : i = ix3 (i 0) (0 : Fin 1) (i 2) := by
    rw [← Fin.eq_zero (show Fin 1 from i 1)]
    exact eq_ix3 i
  rw [ei]
  refine (Ref.v253_at x0 x1 x2 x3 x4 x5 (fineR _ _ _ _ _ _ m c hi hf) (i 0) (i 2)).trans ?_
  rw [hi]
  exact (G11_at hf (i 0) (i 2)).symm

/-- The scales of `C`. -/
theorem cs_eq : val_main_v256 (F := Ideal) x4 = G13 m c := by
  refine funext fun (i : S4x1x10.Idx) => ?_
  have ei : i = ix3 (i 0) (0 : Fin 1) (i 2) := by
    rw [← Fin.eq_zero (show Fin 1 from i 1)]
    exact eq_ix3 i
  rw [ei]
  refine (Ref.v256_at x0 x1 x2 x3 x4 x5 (fineR _ _ _ _ _ _ m c hi hf) (i 0) (i 2)).trans ?_
  rw [hi]
  exact (G13_at hf (i 0) (i 2)).symm

end Cert.Ssd
-- ==== Proof.Pre.lean ====
module

public import proofs.«01_k».proof.Proof.Arrays
public import proofs.«01_k».proof.Proof.Gen.Pre_inputs_ok
public import Idealize.ShloMosaic.Lib.ReduceAll

/-!
What the precondition says of the arrays: every one is finite, and the steps are not negative.
-/

@[expose] public section

set_option maxRecDepth 16384

noncomputable section

open Idealize.ShloMosaic Idealize.ShloMosaic.TcCoe Idealize.SL.Sem
open Cert.Pre_inputs_ok Cert.Pre_inputs_ok.Gen

namespace Cert.Ssd

/-- The largest finite bfloat16 number. -/
def bmax : ℝ := 255 * 2 ^ (120 : ℤ)

/-- Its bits. -/
theorem ofBits_bmax : Ideal.ofBits .f32 0x7F7F0000#32 = ((bmax : ℝ) : EReal) := by
  have e : (16711680 : ℝ) * 2 ^ (104 : ℤ) = bmax := by
    unfold bmax
    rw [show (120 : ℤ) = 16 + 104 by norm_num, zpow_add₀ (by norm_num)]
    norm_num
  rw [← e]
  simp [Ideal.ofBits, Ideal.ieee]

/-- The largest finite float32 number. -/
theorem ofBits_fmax : Ideal.ofBits .f32 0x7F7FFFFF#32 = ((16777215 * 2 ^ (104 : ℤ) : ℝ) : EReal) := by
  simp [Ideal.ofBits, Ideal.ieee]

/-- Zero. -/
theorem ofBits_zero' : Ideal.ofBits .f32 0x00000000#32 = 0 := by
  simp [Ideal.ofBits, Ideal.ieee]

/-- A 448th of the largest bfloat16 number has a scale below the top exponent. -/
theorem bmax_c448 : bmax * c448 < 2 ^ (120 : ℤ) := by
  unfold bmax c448
  norm_num

/-- A truth value whose word is one. -/
theorem ofBool_one {b : Bool} (e : BitVec.ofBool b = 1#1) : b = true := by
  cases b
  · exact absurd e (by decide)
  · rfl

/-- A comparison that came out one, read back. -/
theorem le_of_cmp {x y : EReal} (e : Ideal.cmp .ole x y = 1#1) : x ≤ y := of_decide_eq_true (ofBool_one e)

/-- A comparison that came out one, read back. -/
theorem ge_of_cmp {x y : EReal} (e : Ideal.cmp .oge x y = 1#1) : y ≤ x := of_decide_eq_true (ofBool_one e)

instance : Subsingleton S_.Idx := ⟨fun a b => funext fun i => i.elim0⟩

/-- A conjunction that came out one, read back. -/
theorem and_split (x y : IVec S_ 1) (e : andi x y ix0 = 1#1) : x ix0 = 1#1 ∧ y ix0 = 1#1 := IntOp.andi_eq_one.1 e

/-- The precondition, element by element. -/
structure Bounds (x0 : FVec Ideal S4x2560x80x64 .bf16) (x1 : FVec Ideal S4x2560x80 .f32) (x2 : FVec Ideal S80 .f32)
    (x3 x4 : FVec Ideal S4x2560x1x128 .bf16) : Prop where
  bx0 : ∀ i, absE (x0 i) ≤ (bmax : EReal)
  bx3 : ∀ i, absE (x3 i) ≤ (bmax : EReal)
  bx4 : ∀ i, absE (x4 i) ≤ (bmax : EReal)
  bx2 : ∀ i, absE (x2 i) ≤ ((16777215 * 2 ^ (104 : ℤ) : ℝ) : EReal)
  bx1 : ∀ i, (0 : EReal) ≤ x1 i
  bx1' : ∀ i, x1 i ≤ ((16777215 * 2 ^ (104 : ℤ) : ℝ) : EReal)

/-- The precondition bounds every element. -/
theorem bounds (x0 : FVec Ideal S4x2560x80x64 .bf16) (x1 : FVec Ideal S4x2560x80 .f32) (x2 : FVec Ideal S80 .f32)
    (x3 x4 : FVec Ideal S4x2560x1x128 .bf16) (x5 : FVec Ideal S80 .f32)
    (e : Cert.Pre_inputs_ok.fn (F := Ideal) x0 x1 x2 x3 x4 x5 = fun _ => 1#1) : Bounds x0 x1 x2 x3 x4 := by
  have e0 := congrFun e ix0
  unfold Cert.Pre_inputs_ok.fn Cert.Pre_inputs_ok.fn_part1 at e0
  obtain ⟨e1, h6⟩ := and_split _ _ e0
  obtain ⟨e2, h5⟩ := and_split _ _ e1
  obtain ⟨e3, h4⟩ := and_split _ _ e2
  obtain ⟨e4, h3⟩ := and_split _ _ e3
  obtain ⟨h1, h2⟩ := and_split _ _ e4
  refine ⟨fun i => ?_, fun i => ?_, fun i => ?_, fun i => ?_, fun i => ?_, fun i => ?_⟩
  · rw [← ofBits_bmax]; exact le_of_cmp (Host.reduce_andi_all _ _ _ _ _ h1 i)
  · rw [← ofBits_bmax]; exact le_of_cmp (Host.reduce_andi_all _ _ _ _ _ h2 i)
  · rw [← ofBits_bmax]; exact le_of_cmp (Host.reduce_andi_all _ _ _ _ _ h3 i)
  · rw [← ofBits_fmax]; exact le_of_cmp (Host.reduce_andi_all _ _ _ _ _ h4 i)
  · rw [← ofBits_zero']; exact ge_of_cmp (Host.reduce_andi_all _ _ _ _ _ h5 i)
  · rw [← ofBits_fmax]; exact le_of_cmp (Host.reduce_andi_all _ _ _ _ _ h6 i)

/-- A number of bounded absolute value is a real. -/
theorem real_of_abs {x : EReal} {r : ℝ} (h : absE x ≤ (r : EReal)) : ∃ s : ℝ, x = s := by
  have h1 : x ≤ r := le_trans (le_max_left _ _) h
  have h2 : -x ≤ r := le_trans (le_max_right _ _) h
  induction x with
  | bot => exact absurd h2 (by simp)
  | top => exact absurd h1 (by simp)
  | coe s => exact ⟨s, rfl⟩

/-- A number between zero and a real is a real that is not negative. -/
theorem real_of_between {x : EReal} {r : ℝ} (h0 : 0 ≤ x) (h : x ≤ (r : EReal)) : ∃ s : ℝ, 0 ≤ s ∧ x = s := by
  induction x with
  | bot => exact absurd h0 (by simp)
  | top => exact absurd h (by simp)
  | coe s => exact ⟨s, by exact_mod_cast h0, rfl⟩

/-- A largest absolute value of bfloat16 numbers is small enough for its scale. -/
theorem small_of_le {x : EReal} (h0 : 0 ≤ x) (h : x ≤ (bmax : EReal)) : Small x := by
  obtain ⟨s, hs, rfl⟩ := real_of_between h0 h
  have h' : s ≤ bmax := by exact_mod_cast h
  exact ⟨lt_of_le_of_lt (mul_le_mul_of_nonneg_right h' c448_pos.le) bmax_c448, EReal.coe_ne_top s⟩

/-- The bounds give all that the equality of the results needs. -/
theorem fine_of (m : (ℓ : Loc Cert.KernelIdeal.nD Cert.KernelIdeal.τ Cert.KernelIdeal.sig) → Buf (Elt Ideal) ℓ)
    (c : Dev Cert.KernelIdeal.nD)
    (h : Bounds (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4))) : (inp m c).Fine where
  ok n k hd := ⟨real_of_abs (h.bx2 _), fun s => real_of_between (h.bx1 _) (h.bx1' _)⟩
  x n k hd s := small_of_le (mX_nonneg _ _) (Finset.sup_le fun p _ => h.bx0 _)
  b n k := small_of_le (mB_nonneg _) (Finset.sup_le fun s _ => Finset.sup_le fun l _ => h.bx3 _)
  c n k := small_of_le (mB_nonneg _) (Finset.sup_le fun s _ => Finset.sup_le fun l _ => h.bx4 _)

end Cert.Ssd
-- ==== Proof.Claims.lean ====
module

public import proofs.«01_k».proof.Defs
public import proofs.«01_k».proof.Proof.Equal
public import proofs.«01_k».proof.Proof.Pre
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

/-!
The claims: the three frames, the named constant, and the equality of the results.
-/

@[expose] public section

set_option maxRecDepth 16384

noncomputable section

open Idealize.ShloMosaic Idealize.ShloMosaic.TcCoe Idealize.SL.Sem

namespace Cert.Ssd

/-- The kernel, at the bits: it ends and leaves its arguments as they were. -/
theorem frame_p : Cert.quiescent_Kernel := fun m ρ _ => Cert.Kernel.Gen.frame m ρ

/-- The ideal kernel ends and leaves its arguments as they were. -/
theorem frame_pi : Cert.quiescent_KernelIdeal := fun m ρ _ => Cert.KernelIdeal.Gen.frame m ρ

/-- The ideal reference ends and leaves its arguments as they were. -/
theorem frame_ri : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run (F := Ideal) m ρ)

/-- The one change of the ideal kernel: the constant named `log2e` is read as `1 / log 2`. -/
theorem named : Cert.preserves_Kernel_KernelIdeal :=
  IdealRules.named_const.statement Cert.KernelIdeal.κ "log2e" .f32 0x3FB8AA3B#32 (((Real.log 2)⁻¹ : ℝ) : EReal) rfl

/-- On inputs that the precondition admits, the eight arrays the ideal kernel returns are the eight the ideal reference returns. -/
theorem equal : Cert.algebraic_KernelIdeal_ReferenceIdeal_pre_inputs_ok := by
  intro m ρ m' ρ' hpre hagree
  refine ⟨fun c => Cert.KernelIdeal.Value.G6 m c, fun c => Cert.KernelIdeal.Value.G7 m c, fun c => Cert.KernelIdeal.Value.G8 m c,
    fun c => Cert.KernelIdeal.Value.G9 m c, fun c => Cert.KernelIdeal.Value.G10 m c, fun c => Cert.KernelIdeal.Value.G11 m c,
    fun c => Cert.KernelIdeal.Value.G12 m c, fun c => Cert.KernelIdeal.Value.G13 m c, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3, h4, h5, h6, h7, hargs⟩ := h c
  obtain ⟨a0, a1, a2, a3, a4, a5⟩ := hagree c
  have hf := fine_of m c (bounds _ _ _ _ _ _ (hpre c))
  have hi : Ref.inp (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = inp m c := by
    rw [a0, a1, a2, a3, a4, a5]
    rfl
  exact ⟨(h0.trans (Cert.ReferenceIdeal.Read.val_main_v246_eq _)).trans (y_eq _ _ _ _ _ _ m c hi hf),
    (h1.trans (Cert.ReferenceIdeal.Read.val_main_v215_eq _)).trans (h_eq _ _ _ _ _ _ m c hi hf),
    (h2.trans (Cert.ReferenceIdeal.Read.val_main_v248_eq _)).trans (xc_eq _ _ _ _ _ _ m c hi hf),
    (h3.trans (Cert.ReferenceIdeal.Read.val_main_v250_eq _)).trans (xs_eq _ _ _ _ _ _ m c hi hf),
    (h4.trans (Cert.ReferenceIdeal.Read.val_main_v252_eq _)).trans (bc_eq _ _ _ _ _ _ m c hi hf),
    (h5.trans (Cert.ReferenceIdeal.Read.val_main_v253_eq _)).trans (bs_eq _ _ _ _ _ _ m c hi hf),
    (h6.trans (Cert.ReferenceIdeal.Read.val_main_v255_eq _)).trans (cc_eq _ _ _ _ _ _ m c hi hf),
    (h7.trans (Cert.ReferenceIdeal.Read.val_main_v256_eq _)).trans (cs_eq _ _ _ _ _ _ m c hi hf), hargs⟩

end Cert.Ssd
-- ==== Proof.lean ====
module

public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Pre_inputs_ok.Gen.facts,
    Cert.Ssd.frame_p, Cert.Ssd.frame_pi, fun m ρ _ => Cert.Ssd.frame_pi m ρ trivial,
    Cert.Ssd.frame_ri, fun m ρ _ => Cert.Ssd.frame_ri m ρ trivial, Cert.Ssd.named, Cert.Ssd.equal⟩

end Cert.Proof

end
